-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v387)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v387) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v400) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x50 : Shape := ⟨2, ![1024, 50]⟩
abbrev S1024x1 : Shape := ⟨2, ![1024, 1]⟩
abbrev S20000x128 : Shape := ⟨2, ![20000, 128]⟩
abbrev S320000 : Shape := ⟨1, ![320000]⟩
abbrev S128x128 : Shape := ⟨2, ![128, 128]⟩
abbrev S128 : Shape := ⟨1, ![128]⟩
abbrev S128x1 : Shape := ⟨2, ![128, 1]⟩
abbrev S128x384 : Shape := ⟨2, ![128, 384]⟩
abbrev S320000x1 : Shape := ⟨2, ![320000, 1]⟩
abbrev S_ : Shape := ⟨0, ![]⟩
abbrev S320000x128 : Shape := ⟨2, ![320000, 128]⟩
abbrev S20000 : Shape := ⟨1, ![20000]⟩
abbrev S20000x1 : Shape := ⟨2, ![20000, 1]⟩
abbrev S1x20000x128 : Shape := ⟨3, ![1, 20000, 128]⟩
abbrev S3x20000x128 : Shape := ⟨3, ![3, 20000, 128]⟩
abbrev S20000x384 : Shape := ⟨2, ![20000, 384]⟩
abbrev S384x128 : Shape := ⟨2, ![384, 128]⟩
abbrev S1x128 : Shape := ⟨2, ![1, 128]⟩
abbrev S20001x128 : Shape := ⟨2, ![20001, 128]⟩
abbrev S1024x50x1 : Shape := ⟨3, ![1024, 50, 1]⟩
abbrev S1024x50x128 : Shape := ⟨3, ![1024, 50, 128]⟩
abbrev S1024x128 : Shape := ⟨2, ![1024, 128]⟩
abbrev S1024x1x128 : Shape := ⟨3, ![1024, 1, 128]⟩
abbrev S1024x1x50x128 : Shape := ⟨4, ![1024, 1, 50, 128]⟩
abbrev S1x1x128 : Shape := ⟨3, ![1, 1, 128]⟩
abbrev S1024 : Shape := ⟨1, ![1024]⟩
abbrev S50 : Shape := ⟨1, ![50]⟩
abbrev S1x50 : Shape := ⟨2, ![1, 50]⟩
abbrev S128x1024 : Shape := ⟨2, ![128, 1024]⟩
abbrev S1024x1024 : Shape := ⟨2, ![1024, 1024]⟩
abbrev S1x1024 : Shape := ⟨2, ![1, 1024]⟩
abbrev S1024x3 : Shape := ⟨2, ![1024, 3]⟩
abbrev S1024x3x1 : Shape := ⟨3, ![1024, 3, 1]⟩
abbrev S1024x3x128 : Shape := ⟨3, ![1024, 3, 128]⟩
abbrev S1024x20000 : Shape := ⟨2, ![1024, 20000]⟩
abbrev S128x20000 : Shape := ⟨2, ![128, 20000]⟩

abbrev nBuf : Space → Nat
  | .hbm => 550
  | .vmem => 5
  | .smem => 0
  | _ => 0

abbrev hbmTy0_0 (i : Nat) : BufTy := match i % 128 with
  | 0 => ⟨S1024x50, .i32⟩
  | 1 => ⟨S1024x1, .i32⟩
  | 2 => ⟨S1024x50, .i32⟩
  | 3 => ⟨S1024x50, .f32⟩
  | 4 => ⟨S20000x128, .f32⟩
  | 5 => ⟨S20000x128, .f32⟩
  | 6 => ⟨S20000x128, .f32⟩
  | 7 => ⟨S320000, .i32⟩
  | 8 => ⟨S320000, .i32⟩
  | 9 => ⟨S320000, .f32⟩
  | 10 => ⟨S320000, .i32⟩
  | 11 => ⟨S320000, .i32⟩
  | 12 => ⟨S320000, .f32⟩
  | 13 => ⟨S320000, .i32⟩
  | 14 => ⟨S320000, .i32⟩
  | 15 => ⟨S320000, .f32⟩
  | 16 => ⟨S128x128, .f32⟩
  | 17 => ⟨S128x128, .f32⟩
  | 18 => ⟨S128x128, .f32⟩
  | 19 => ⟨S128, .f32⟩
  | 20 => ⟨S128x128, .f32⟩
  | 21 => ⟨S128x1, .f32⟩
  | 22 => ⟨S128x384, .f32⟩
  | 23 => ⟨S128, .f32⟩
  | 24 => ⟨S128x128, .f32⟩
  | 25 => ⟨S128, .f32⟩
  | 26 => ⟨S128x128, .f32⟩
  | 27 => ⟨S20000x128, .f32⟩
  | 28 => ⟨S320000x1, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000x128, .f32⟩
  | 38 => ⟨S320000x128, .f32⟩
  | 39 => ⟨S320000x128, .f32⟩
  | 40 => ⟨S_, .f32⟩
  | 41 => ⟨S20000x128, .f32⟩
  | 42 => ⟨S320000x1, .i32⟩
  | 43 => ⟨S20000x128, .f32⟩
  | 44 => ⟨S20000x128, .f32⟩
  | 45 => ⟨S_, .f32⟩
  | 46 => ⟨S20000, .f32⟩
  | 47 => ⟨S20000x1, .f32⟩
  | 48 => ⟨S20000x1, .f32⟩
  | 49 => ⟨S_, .f32⟩
  | 50 => ⟨S20000x1, .f32⟩
  | 51 => ⟨S20000x1, .f32⟩
  | 52 => ⟨S20000x128, .f32⟩
  | 53 => ⟨S20000x128, .f32⟩
  | 54 => ⟨S128x128, .f32⟩
  | 55 => ⟨S20000x128, .f32⟩
  | 56 => ⟨S320000x1, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x128, .f32⟩
  | 66 => ⟨S320000x128, .f32⟩
  | 67 => ⟨S320000x128, .f32⟩
  | 68 => ⟨S_, .f32⟩
  | 69 => ⟨S20000x128, .f32⟩
  | 70 => ⟨S320000x1, .i32⟩
  | 71 => ⟨S20000x128, .f32⟩
  | 72 => ⟨S20000x128, .f32⟩
  | 73 => ⟨S_, .f32⟩
  | 74 => ⟨S20000, .f32⟩
  | 75 => ⟨S20000x1, .f32⟩
  | 76 => ⟨S20000x1, .f32⟩
  | 77 => ⟨S_, .f32⟩
  | 78 => ⟨S20000x1, .f32⟩
  | 79 => ⟨S20000x1, .f32⟩
  | 80 => ⟨S20000x128, .f32⟩
  | 81 => ⟨S20000x128, .f32⟩
  | 82 => ⟨S1x20000x128, .f32⟩
  | 83 => ⟨S1x20000x128, .f32⟩
  | 84 => ⟨S1x20000x128, .f32⟩
  | 85 => ⟨S3x20000x128, .f32⟩
  | 86 => ⟨S_, .f32⟩
  | 87 => ⟨S20000x128, .f32⟩
  | 88 => ⟨S_, .f32⟩
  | 89 => ⟨S20000x128, .f32⟩
  | 90 => ⟨S20000x128, .f32⟩
  | 91 => ⟨S128x128, .f32⟩
  | 92 => ⟨S20000x128, .f32⟩
  | 93 => ⟨S320000x1, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S320000x128, .f32⟩
  | 103 => ⟨S320000x128, .f32⟩
  | 104 => ⟨S320000x128, .f32⟩
  | 105 => ⟨S_, .f32⟩
  | 106 => ⟨S20000x128, .f32⟩
  | 107 => ⟨S320000x1, .i32⟩
  | 108 => ⟨S20000x128, .f32⟩
  | 109 => ⟨S20000x128, .f32⟩
  | 110 => ⟨S_, .f32⟩
  | 111 => ⟨S20000, .f32⟩
  | 112 => ⟨S20000x1, .f32⟩
  | 113 => ⟨S20000x1, .f32⟩
  | 114 => ⟨S_, .f32⟩
  | 115 => ⟨S20000x1, .f32⟩
  | 116 => ⟨S20000x1, .f32⟩
  | 117 => ⟨S20000x128, .f32⟩
  | 118 => ⟨S20000x128, .f32⟩
  | 119 => ⟨S128x128, .f32⟩
  | 120 => ⟨S20000x128, .f32⟩
  | 121 => ⟨S320000x1, .f32⟩
  | 122 => ⟨S_, .i32⟩
  | 123 => ⟨S320000, .i32⟩
  | 124 => ⟨S320000, .i1⟩
  | 125 => ⟨S_, .i32⟩
  | 126 => ⟨S320000, .i32⟩
  | 127 => ⟨S320000, .i32⟩
  | _ => ⟨S1024x50, .i32⟩

abbrev hbmTy0_1 (i : Nat) : BufTy := match i % 128 with
  | 0 => ⟨S320000, .i32⟩
  | 1 => ⟨S320000x1, .i32⟩
  | 2 => ⟨S320000x128, .f32⟩
  | 3 => ⟨S320000x128, .f32⟩
  | 4 => ⟨S320000x128, .f32⟩
  | 5 => ⟨S_, .f32⟩
  | 6 => ⟨S20000x128, .f32⟩
  | 7 => ⟨S320000x1, .i32⟩
  | 8 => ⟨S20000x128, .f32⟩
  | 9 => ⟨S20000x128, .f32⟩
  | 10 => ⟨S_, .f32⟩
  | 11 => ⟨S20000, .f32⟩
  | 12 => ⟨S20000x1, .f32⟩
  | 13 => ⟨S20000x1, .f32⟩
  | 14 => ⟨S_, .f32⟩
  | 15 => ⟨S20000x1, .f32⟩
  | 16 => ⟨S20000x1, .f32⟩
  | 17 => ⟨S20000x128, .f32⟩
  | 18 => ⟨S20000x128, .f32⟩
  | 19 => ⟨S1x20000x128, .f32⟩
  | 20 => ⟨S1x20000x128, .f32⟩
  | 21 => ⟨S1x20000x128, .f32⟩
  | 22 => ⟨S3x20000x128, .f32⟩
  | 23 => ⟨S_, .f32⟩
  | 24 => ⟨S20000x128, .f32⟩
  | 25 => ⟨S_, .f32⟩
  | 26 => ⟨S20000x128, .f32⟩
  | 27 => ⟨S20000x128, .f32⟩
  | 28 => ⟨S128x128, .f32⟩
  | 29 => ⟨S20000x128, .f32⟩
  | 30 => ⟨S320000x1, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000x128, .f32⟩
  | 40 => ⟨S320000x128, .f32⟩
  | 41 => ⟨S320000x128, .f32⟩
  | 42 => ⟨S_, .f32⟩
  | 43 => ⟨S20000x128, .f32⟩
  | 44 => ⟨S320000x1, .i32⟩
  | 45 => ⟨S20000x128, .f32⟩
  | 46 => ⟨S20000x128, .f32⟩
  | 47 => ⟨S_, .f32⟩
  | 48 => ⟨S20000, .f32⟩
  | 49 => ⟨S20000x1, .f32⟩
  | 50 => ⟨S20000x1, .f32⟩
  | 51 => ⟨S_, .f32⟩
  | 52 => ⟨S20000x1, .f32⟩
  | 53 => ⟨S20000x1, .f32⟩
  | 54 => ⟨S20000x128, .f32⟩
  | 55 => ⟨S20000x128, .f32⟩
  | 56 => ⟨S128x128, .f32⟩
  | 57 => ⟨S20000x128, .f32⟩
  | 58 => ⟨S320000x1, .f32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S320000x128, .f32⟩
  | 68 => ⟨S320000x128, .f32⟩
  | 69 => ⟨S320000x128, .f32⟩
  | 70 => ⟨S_, .f32⟩
  | 71 => ⟨S20000x128, .f32⟩
  | 72 => ⟨S320000x1, .i32⟩
  | 73 => ⟨S20000x128, .f32⟩
  | 74 => ⟨S20000x128, .f32⟩
  | 75 => ⟨S_, .f32⟩
  | 76 => ⟨S20000, .f32⟩
  | 77 => ⟨S20000x1, .f32⟩
  | 78 => ⟨S20000x1, .f32⟩
  | 79 => ⟨S_, .f32⟩
  | 80 => ⟨S20000x1, .f32⟩
  | 81 => ⟨S20000x1, .f32⟩
  | 82 => ⟨S20000x128, .f32⟩
  | 83 => ⟨S20000x128, .f32⟩
  | 84 => ⟨S1x20000x128, .f32⟩
  | 85 => ⟨S1x20000x128, .f32⟩
  | 86 => ⟨S1x20000x128, .f32⟩
  | 87 => ⟨S3x20000x128, .f32⟩
  | 88 => ⟨S_, .f32⟩
  | 89 => ⟨S20000x128, .f32⟩
  | 90 => ⟨S_, .f32⟩
  | 91 => ⟨S20000x128, .f32⟩
  | 92 => ⟨S20000x128, .f32⟩
  | 93 => ⟨S128x128, .f32⟩
  | 94 => ⟨S20000x128, .f32⟩
  | 95 => ⟨S320000x1, .f32⟩
  | 96 => ⟨S_, .i32⟩
  | 97 => ⟨S320000, .i32⟩
  | 98 => ⟨S320000, .i1⟩
  | 99 => ⟨S_, .i32⟩
  | 100 => ⟨S320000, .i32⟩
  | 101 => ⟨S320000, .i32⟩
  | 102 => ⟨S320000, .i32⟩
  | 103 => ⟨S320000x1, .i32⟩
  | 104 => ⟨S320000x128, .f32⟩
  | 105 => ⟨S320000x128, .f32⟩
  | 106 => ⟨S320000x128, .f32⟩
  | 107 => ⟨S_, .f32⟩
  | 108 => ⟨S20000x128, .f32⟩
  | 109 => ⟨S320000x1, .i32⟩
  | 110 => ⟨S20000x128, .f32⟩
  | 111 => ⟨S20000x128, .f32⟩
  | 112 => ⟨S_, .f32⟩
  | 113 => ⟨S20000, .f32⟩
  | 114 => ⟨S20000x1, .f32⟩
  | 115 => ⟨S20000x1, .f32⟩
  | 116 => ⟨S_, .f32⟩
  | 117 => ⟨S20000x1, .f32⟩
  | 118 => ⟨S20000x1, .f32⟩
  | 119 => ⟨S20000x128, .f32⟩
  | 120 => ⟨S20000x128, .f32⟩
  | 121 => ⟨S128x128, .f32⟩
  | 122 => ⟨S20000x128, .f32⟩
  | 123 => ⟨S320000x1, .f32⟩
  | 124 => ⟨S_, .i32⟩
  | 125 => ⟨S320000, .i32⟩
  | 126 => ⟨S320000, .i1⟩
  | 127 => ⟨S_, .i32⟩
  | _ => ⟨S1024x50, .i32⟩

abbrev hbmTy0_2 (i : Nat) : BufTy := match i % 128 with
  | 0 => ⟨S320000, .i32⟩
  | 1 => ⟨S320000, .i32⟩
  | 2 => ⟨S320000, .i32⟩
  | 3 => ⟨S320000x1, .i32⟩
  | 4 => ⟨S320000x128, .f32⟩
  | 5 => ⟨S320000x128, .f32⟩
  | 6 => ⟨S320000x128, .f32⟩
  | 7 => ⟨S_, .f32⟩
  | 8 => ⟨S20000x128, .f32⟩
  | 9 => ⟨S320000x1, .i32⟩
  | 10 => ⟨S20000x128, .f32⟩
  | 11 => ⟨S20000x128, .f32⟩
  | 12 => ⟨S_, .f32⟩
  | 13 => ⟨S20000, .f32⟩
  | 14 => ⟨S20000x1, .f32⟩
  | 15 => ⟨S20000x1, .f32⟩
  | 16 => ⟨S_, .f32⟩
  | 17 => ⟨S20000x1, .f32⟩
  | 18 => ⟨S20000x1, .f32⟩
  | 19 => ⟨S20000x128, .f32⟩
  | 20 => ⟨S20000x128, .f32⟩
  | 21 => ⟨S1x20000x128, .f32⟩
  | 22 => ⟨S1x20000x128, .f32⟩
  | 23 => ⟨S1x20000x128, .f32⟩
  | 24 => ⟨S3x20000x128, .f32⟩
  | 25 => ⟨S_, .f32⟩
  | 26 => ⟨S20000x128, .f32⟩
  | 27 => ⟨S_, .f32⟩
  | 28 => ⟨S20000x128, .f32⟩
  | 29 => ⟨S20000x128, .f32⟩
  | 30 => ⟨S128x128, .f32⟩
  | 31 => ⟨S20000x128, .f32⟩
  | 32 => ⟨S320000x1, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x128, .f32⟩
  | 42 => ⟨S320000x128, .f32⟩
  | 43 => ⟨S320000x128, .f32⟩
  | 44 => ⟨S_, .f32⟩
  | 45 => ⟨S20000x128, .f32⟩
  | 46 => ⟨S320000x1, .i32⟩
  | 47 => ⟨S20000x128, .f32⟩
  | 48 => ⟨S20000x128, .f32⟩
  | 49 => ⟨S_, .f32⟩
  | 50 => ⟨S20000, .f32⟩
  | 51 => ⟨S20000x1, .f32⟩
  | 52 => ⟨S20000x1, .f32⟩
  | 53 => ⟨S_, .f32⟩
  | 54 => ⟨S20000x1, .f32⟩
  | 55 => ⟨S20000x1, .f32⟩
  | 56 => ⟨S20000x128, .f32⟩
  | 57 => ⟨S20000x128, .f32⟩
  | 58 => ⟨S128x128, .f32⟩
  | 59 => ⟨S20000x128, .f32⟩
  | 60 => ⟨S320000x1, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S320000x128, .f32⟩
  | 70 => ⟨S320000x128, .f32⟩
  | 71 => ⟨S320000x128, .f32⟩
  | 72 => ⟨S_, .f32⟩
  | 73 => ⟨S20000x128, .f32⟩
  | 74 => ⟨S320000x1, .i32⟩
  | 75 => ⟨S20000x128, .f32⟩
  | 76 => ⟨S20000x128, .f32⟩
  | 77 => ⟨S_, .f32⟩
  | 78 => ⟨S20000, .f32⟩
  | 79 => ⟨S20000x1, .f32⟩
  | 80 => ⟨S20000x1, .f32⟩
  | 81 => ⟨S_, .f32⟩
  | 82 => ⟨S20000x1, .f32⟩
  | 83 => ⟨S20000x1, .f32⟩
  | 84 => ⟨S20000x128, .f32⟩
  | 85 => ⟨S20000x128, .f32⟩
  | 86 => ⟨S1x20000x128, .f32⟩
  | 87 => ⟨S1x20000x128, .f32⟩
  | 88 => ⟨S1x20000x128, .f32⟩
  | 89 => ⟨S3x20000x128, .f32⟩
  | 90 => ⟨S_, .f32⟩
  | 91 => ⟨S20000x128, .f32⟩
  | 92 => ⟨S_, .f32⟩
  | 93 => ⟨S20000x128, .f32⟩
  | 94 => ⟨S20000x128, .f32⟩
  | 95 => ⟨S20000x128, .f32⟩
  | 96 => ⟨S20000x128, .f32⟩
  | 97 => ⟨S20000x384, .f32⟩
  | 98 => ⟨S384x128, .f32⟩
  | 99 => ⟨S20000x128, .f32⟩
  | 100 => ⟨S1x128, .f32⟩
  | 101 => ⟨S20000x128, .f32⟩
  | 102 => ⟨S20000x128, .f32⟩
  | 103 => ⟨S20000x128, .f32⟩
  | 104 => ⟨S128x128, .f32⟩
  | 105 => ⟨S20000x128, .f32⟩
  | 106 => ⟨S1x128, .f32⟩
  | 107 => ⟨S20000x128, .f32⟩
  | 108 => ⟨S20000x128, .f32⟩
  | 109 => ⟨S20000x128, .f32⟩
  | 110 => ⟨S_, .f32⟩
  | 111 => ⟨S1x128, .f32⟩
  | 112 => ⟨S20001x128, .f32⟩
  | 113 => ⟨S_, .i32⟩
  | 114 => ⟨S1024x50, .i32⟩
  | 115 => ⟨S1024x50, .i1⟩
  | 116 => ⟨S_, .i32⟩
  | 117 => ⟨S1024x50, .i32⟩
  | 118 => ⟨S1024x50, .i32⟩
  | 119 => ⟨S1024x50, .i32⟩
  | 120 => ⟨S1024x50x1, .i32⟩
  | 121 => ⟨S1024x50x128, .f32⟩
  | 122 => ⟨S_, .f32⟩
  | 123 => ⟨S1024x128, .f32⟩
  | 124 => ⟨S1024x1, .f32⟩
  | 125 => ⟨S1024x128, .f32⟩
  | 126 => ⟨S1024x128, .f32⟩
  | 127 => ⟨S1024x50x1, .f32⟩
  | _ => ⟨S1024x50, .i32⟩

abbrev hbmTy0_3 (i : Nat) : BufTy := match i % 128 with
  | 0 => ⟨S1024x1x128, .f32⟩
  | 1 => ⟨S1024x1x50x128, .f32⟩
  | 2 => ⟨S1024x50x128, .f32⟩
  | 3 => ⟨S1024x50x128, .f32⟩
  | 4 => ⟨S128x128, .f32⟩
  | 5 => ⟨S1024x50x128, .f32⟩
  | 6 => ⟨S1x1x128, .f32⟩
  | 7 => ⟨S1024x50x128, .f32⟩
  | 8 => ⟨S1024x50x128, .f32⟩
  | 9 => ⟨S128x128, .f32⟩
  | 10 => ⟨S1024x50x128, .f32⟩
  | 11 => ⟨S1024x50x128, .f32⟩
  | 12 => ⟨S1024x50x128, .f32⟩
  | 13 => ⟨S1024x50x128, .f32⟩
  | 14 => ⟨S_, .f32⟩
  | 15 => ⟨S1024x50x128, .f32⟩
  | 16 => ⟨S1024x50x128, .f32⟩
  | 17 => ⟨S_, .f32⟩
  | 18 => ⟨S1024x50x128, .f32⟩
  | 19 => ⟨S1024x50x128, .f32⟩
  | 20 => ⟨S1024x50x1, .f32⟩
  | 21 => ⟨S1024x50x1, .f32⟩
  | 22 => ⟨S1024x50x128, .f32⟩
  | 23 => ⟨S1024x50x128, .f32⟩
  | 24 => ⟨S_, .f32⟩
  | 25 => ⟨S1024x128, .f32⟩
  | 26 => ⟨S1024, .i32⟩
  | 27 => ⟨S50, .i32⟩
  | 28 => ⟨S1x50, .i32⟩
  | 29 => ⟨S1024x1, .i32⟩
  | 30 => ⟨S1024x50, .i32⟩
  | 31 => ⟨S1024x50, .i32⟩
  | 32 => ⟨S1024x50, .i1⟩
  | 33 => ⟨S1024x1, .i32⟩
  | 34 => ⟨S1024x50, .i32⟩
  | 35 => ⟨S1024x50, .i32⟩
  | 36 => ⟨S1024x50, .i32⟩
  | 37 => ⟨S1024x50, .f32⟩
  | 38 => ⟨S_, .f32⟩
  | 39 => ⟨S_, .f32⟩
  | 40 => ⟨S1024x50, .f32⟩
  | 41 => ⟨S1024x50, .f32⟩
  | 42 => ⟨S_, .f32⟩
  | 43 => ⟨S1024x50, .f32⟩
  | 44 => ⟨S1024x50, .f32⟩
  | 45 => ⟨S1024x50, .f32⟩
  | 46 => ⟨S1024x1x128, .f32⟩
  | 47 => ⟨S1024x50x128, .f32⟩
  | 48 => ⟨S1024x50x128, .f32⟩
  | 49 => ⟨S_, .f32⟩
  | 50 => ⟨S1024x50, .f32⟩
  | 51 => ⟨S1024x50x128, .f32⟩
  | 52 => ⟨S_, .f32⟩
  | 53 => ⟨S1024x50, .f32⟩
  | 54 => ⟨S1024x50, .f32⟩
  | 55 => ⟨S1024x1x128, .f32⟩
  | 56 => ⟨S_, .f32⟩
  | 57 => ⟨S1024x1, .f32⟩
  | 58 => ⟨S1024x1, .f32⟩
  | 59 => ⟨S_, .f32⟩
  | 60 => ⟨S1024x50, .f32⟩
  | 61 => ⟨S1024x50, .f32⟩
  | 62 => ⟨S_, .f32⟩
  | 63 => ⟨S1024x1, .f32⟩
  | 64 => ⟨S1024x1, .f32⟩
  | 65 => ⟨S1024x50, .f32⟩
  | 66 => ⟨S1024x50, .f32⟩
  | 67 => ⟨S1024x50, .f32⟩
  | 68 => ⟨S1024x50, .f32⟩
  | 69 => ⟨S_, .f32⟩
  | 70 => ⟨S1024x50, .f32⟩
  | 71 => ⟨S1024x50, .i1⟩
  | 72 => ⟨S_, .f32⟩
  | 73 => ⟨S_, .f32⟩
  | 74 => ⟨S1024x50, .f32⟩
  | 75 => ⟨S1024x50, .f32⟩
  | 76 => ⟨S_, .f32⟩
  | 77 => ⟨S1024, .f32⟩
  | 78 => ⟨S_, .f32⟩
  | 79 => ⟨S1024, .f32⟩
  | 80 => ⟨S1024, .f32⟩
  | 81 => ⟨S1024x1, .f32⟩
  | 82 => ⟨S1024x50, .f32⟩
  | 83 => ⟨S1024x50, .f32⟩
  | 84 => ⟨S1024x50, .f32⟩
  | 85 => ⟨S_, .f32⟩
  | 86 => ⟨S1024, .f32⟩
  | 87 => ⟨S1024x1, .f32⟩
  | 88 => ⟨S1024x50, .f32⟩
  | 89 => ⟨S1024x50, .f32⟩
  | 90 => ⟨S1024x50x1, .f32⟩
  | 91 => ⟨S1024x50x128, .f32⟩
  | 92 => ⟨S1024x50x128, .f32⟩
  | 93 => ⟨S_, .f32⟩
  | 94 => ⟨S1024x128, .f32⟩
  | 95 => ⟨S1024x128, .f32⟩
  | 96 => ⟨S128x1024, .f32⟩
  | 97 => ⟨S1024x1024, .f32⟩
  | 98 => ⟨S1024x128, .f32⟩
  | 99 => ⟨S_, .f32⟩
  | 100 => ⟨S1024x128, .f32⟩
  | 101 => ⟨S1024x128, .f32⟩
  | 102 => ⟨S_, .f32⟩
  | 103 => ⟨S1024, .f32⟩
  | 104 => ⟨S1024, .f32⟩
  | 105 => ⟨S1024x1, .f32⟩
  | 106 => ⟨S1x1024, .f32⟩
  | 107 => ⟨S1024x1024, .f32⟩
  | 108 => ⟨S1024x1024, .f32⟩
  | 109 => ⟨S_, .f32⟩
  | 110 => ⟨S1024, .f32⟩
  | 111 => ⟨S_, .f32⟩
  | 112 => ⟨S1024, .f32⟩
  | 113 => ⟨S1024, .f32⟩
  | 114 => ⟨S1024x1, .f32⟩
  | 115 => ⟨S1024x1024, .f32⟩
  | 116 => ⟨S1024x1024, .f32⟩
  | 117 => ⟨S1024x1024, .f32⟩
  | 118 => ⟨S_, .f32⟩
  | 119 => ⟨S1024, .f32⟩
  | 120 => ⟨S1024x1, .f32⟩
  | 121 => ⟨S1024x1024, .f32⟩
  | 122 => ⟨S1024x1024, .f32⟩
  | 123 => ⟨S1024x3, .f32⟩
  | 124 => ⟨S1024x3, .i32⟩
  | 125 => ⟨S_, .f32⟩
  | 126 => ⟨S1024, .f32⟩
  | 127 => ⟨S_, .f32⟩
  | _ => ⟨S1024x50, .i32⟩

abbrev hbmTy0_4 (i : Nat) : BufTy := match i % 128 with
  | 0 => ⟨S1024, .f32⟩
  | 1 => ⟨S1024, .f32⟩
  | 2 => ⟨S1024x1, .f32⟩
  | 3 => ⟨S1024x3, .f32⟩
  | 4 => ⟨S1024x3, .f32⟩
  | 5 => ⟨S1024x3, .f32⟩
  | 6 => ⟨S_, .f32⟩
  | 7 => ⟨S1024, .f32⟩
  | 8 => ⟨S1024x1, .f32⟩
  | 9 => ⟨S1024x3, .f32⟩
  | 10 => ⟨S1024x3, .f32⟩
  | 11 => ⟨S_, .i32⟩
  | 12 => ⟨S1024x3, .i32⟩
  | 13 => ⟨S1024x3, .i1⟩
  | 14 => ⟨S_, .i32⟩
  | 15 => ⟨S1024x3, .i32⟩
  | 16 => ⟨S1024x3, .i32⟩
  | 17 => ⟨S1024x3, .i32⟩
  | 18 => ⟨S1024x3x1, .i32⟩
  | 19 => ⟨S1024x3x128, .f32⟩
  | 20 => ⟨S1024x3x1, .f32⟩
  | 21 => ⟨S1024x3x128, .f32⟩
  | 22 => ⟨S1024x3x128, .f32⟩
  | 23 => ⟨S_, .f32⟩
  | 24 => ⟨S1024x128, .f32⟩
  | 25 => ⟨S1024x128, .f32⟩
  | 26 => ⟨S1024x128, .f32⟩
  | 27 => ⟨S_, .f32⟩
  | 28 => ⟨S1024, .f32⟩
  | 29 => ⟨S1024x1, .f32⟩
  | 30 => ⟨S1024x1, .f32⟩
  | 31 => ⟨S_, .f32⟩
  | 32 => ⟨S1024x1, .f32⟩
  | 33 => ⟨S1024x1, .f32⟩
  | 34 => ⟨S1024x128, .f32⟩
  | 35 => ⟨S1024x128, .f32⟩
  | 36 => ⟨S1024x128, .f32⟩
  | 37 => ⟨S1024x20000, .f32⟩
  | _ => ⟨S1024x50, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x50, .i32⟩

abbrev bufTy : (tb : Table) → Fin (tcTables nBuf tb) → BufTy
  | .hbm, ⟨i, _⟩ => hbmTy i
  | .local _ .vmem, ⟨0, _⟩ => ⟨S128x128, .f32⟩
  | .local _ .vmem, ⟨1, _⟩ => ⟨S128x128, .f32⟩
  | .local _ .vmem, ⟨2, _⟩ => ⟨S20000x128, .f32⟩
  | .local _ .vmem, ⟨3, _⟩ => ⟨S128x20000, .f32⟩
  | .local _ .vmem, ⟨4, _⟩ => ⟨S128x20000, .f32⟩
  | _, _ => ⟨S1024x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_c : Ref sig .tc := ⟨.hbm, 29, rfl⟩
abbrev main_v3 : Ref sig .tc := ⟨.hbm, 30, rfl⟩
abbrev main_v4 : Ref sig .tc := ⟨.hbm, 31, rfl⟩
abbrev main_c_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_call0_v0 : Ref sig .tc := ⟨.hbm, 44, rfl⟩
abbrev main_call0_cst : Ref sig .tc := ⟨.hbm, 45, rfl⟩
abbrev main_call0_v1 : Ref sig .tc := ⟨.hbm, 46, rfl⟩
abbrev main_call0_v2 : Ref sig .tc := ⟨.hbm, 47, rfl⟩
abbrev main_v15 : Ref sig .tc := ⟨.hbm, 48, rfl⟩
abbrev main_cst_1 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_2 : Ref sig .tc := ⟨.hbm, 57, rfl⟩
abbrev main_v23 : Ref sig .tc := ⟨.hbm, 58, rfl⟩
abbrev main_v24 : Ref sig .tc := ⟨.hbm, 59, rfl⟩
abbrev main_c_3 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_call1_v0 : Ref sig .tc := ⟨.hbm, 72, rfl⟩
abbrev main_call1_cst : Ref sig .tc := ⟨.hbm, 73, rfl⟩
abbrev main_call1_v1 : Ref sig .tc := ⟨.hbm, 74, rfl⟩
abbrev main_call1_v2 : Ref sig .tc := ⟨.hbm, 75, rfl⟩
abbrev main_v35 : Ref sig .tc := ⟨.hbm, 76, rfl⟩
abbrev main_cst_5 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_6 : Ref sig .tc := ⟨.hbm, 86, rfl⟩
abbrev main_v44 : Ref sig .tc := ⟨.hbm, 87, rfl⟩
abbrev main_cst_7 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_8 : Ref sig .tc := ⟨.hbm, 94, rfl⟩
abbrev main_v50 : Ref sig .tc := ⟨.hbm, 95, rfl⟩
abbrev main_v51 : Ref sig .tc := ⟨.hbm, 96, rfl⟩
abbrev main_c_9 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_10 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_call2_v0 : Ref sig .tc := ⟨.hbm, 109, rfl⟩
abbrev main_call2_cst : Ref sig .tc := ⟨.hbm, 110, rfl⟩
abbrev main_call2_v1 : Ref sig .tc := ⟨.hbm, 111, rfl⟩
abbrev main_call2_v2 : Ref sig .tc := ⟨.hbm, 112, rfl⟩
abbrev main_v62 : Ref sig .tc := ⟨.hbm, 113, rfl⟩
abbrev main_cst_11 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_c_12 : Ref sig .tc := ⟨.hbm, 122, rfl⟩
abbrev main_v70 : Ref sig .tc := ⟨.hbm, 123, rfl⟩
abbrev main_v71 : Ref sig .tc := ⟨.hbm, 124, rfl⟩
abbrev main_c_13 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_cst_14 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_call3_v0 : Ref sig .tc := ⟨.hbm, 137, rfl⟩
abbrev main_call3_cst : Ref sig .tc := ⟨.hbm, 138, rfl⟩
abbrev main_call3_v1 : Ref sig .tc := ⟨.hbm, 139, rfl⟩
abbrev main_call3_v2 : Ref sig .tc := ⟨.hbm, 140, rfl⟩
abbrev main_v82 : Ref sig .tc := ⟨.hbm, 141, rfl⟩
abbrev main_cst_15 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_cst_16 : Ref sig .tc := ⟨.hbm, 151, rfl⟩
abbrev main_v91 : Ref sig .tc := ⟨.hbm, 152, rfl⟩
abbrev main_cst_17 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_c_18 : Ref sig .tc := ⟨.hbm, 159, rfl⟩
abbrev main_v97 : Ref sig .tc := ⟨.hbm, 160, rfl⟩
abbrev main_v98 : Ref sig .tc := ⟨.hbm, 161, rfl⟩
abbrev main_c_19 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_cst_20 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_call4_v0 : Ref sig .tc := ⟨.hbm, 174, rfl⟩
abbrev main_call4_cst : Ref sig .tc := ⟨.hbm, 175, rfl⟩
abbrev main_call4_v1 : Ref sig .tc := ⟨.hbm, 176, rfl⟩
abbrev main_call4_v2 : Ref sig .tc := ⟨.hbm, 177, rfl⟩
abbrev main_v109 : Ref sig .tc := ⟨.hbm, 178, rfl⟩
abbrev main_cst_21 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_c_22 : Ref sig .tc := ⟨.hbm, 187, rfl⟩
abbrev main_v117 : Ref sig .tc := ⟨.hbm, 188, rfl⟩
abbrev main_v118 : Ref sig .tc := ⟨.hbm, 189, rfl⟩
abbrev main_c_23 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_cst_24 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_call5_v0 : Ref sig .tc := ⟨.hbm, 202, rfl⟩
abbrev main_call5_cst : Ref sig .tc := ⟨.hbm, 203, rfl⟩
abbrev main_call5_v1 : Ref sig .tc := ⟨.hbm, 204, rfl⟩
abbrev main_call5_v2 : Ref sig .tc := ⟨.hbm, 205, rfl⟩
abbrev main_v129 : Ref sig .tc := ⟨.hbm, 206, rfl⟩
abbrev main_cst_25 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_cst_26 : Ref sig .tc := ⟨.hbm, 216, rfl⟩
abbrev main_v138 : Ref sig .tc := ⟨.hbm, 217, rfl⟩
abbrev main_cst_27 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_c_28 : Ref sig .tc := ⟨.hbm, 224, rfl⟩
abbrev main_v144 : Ref sig .tc := ⟨.hbm, 225, rfl⟩
abbrev main_v145 : Ref sig .tc := ⟨.hbm, 226, rfl⟩
abbrev main_c_29 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_cst_30 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_call6_v0 : Ref sig .tc := ⟨.hbm, 239, rfl⟩
abbrev main_call6_cst : Ref sig .tc := ⟨.hbm, 240, rfl⟩
abbrev main_call6_v1 : Ref sig .tc := ⟨.hbm, 241, rfl⟩
abbrev main_call6_v2 : Ref sig .tc := ⟨.hbm, 242, rfl⟩
abbrev main_v156 : Ref sig .tc := ⟨.hbm, 243, rfl⟩
abbrev main_cst_31 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_c_32 : Ref sig .tc := ⟨.hbm, 252, rfl⟩
abbrev main_v164 : Ref sig .tc := ⟨.hbm, 253, rfl⟩
abbrev main_v165 : Ref sig .tc := ⟨.hbm, 254, rfl⟩
abbrev main_c_33 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_cst_34 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_call7_v0 : Ref sig .tc := ⟨.hbm, 267, rfl⟩
abbrev main_call7_cst : Ref sig .tc := ⟨.hbm, 268, rfl⟩
abbrev main_call7_v1 : Ref sig .tc := ⟨.hbm, 269, rfl⟩
abbrev main_call7_v2 : Ref sig .tc := ⟨.hbm, 270, rfl⟩
abbrev main_v176 : Ref sig .tc := ⟨.hbm, 271, rfl⟩
abbrev main_cst_35 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_cst_36 : Ref sig .tc := ⟨.hbm, 281, rfl⟩
abbrev main_v185 : Ref sig .tc := ⟨.hbm, 282, rfl⟩
abbrev main_cst_37 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_c_38 : Ref sig .tc := ⟨.hbm, 289, rfl⟩
abbrev main_v191 : Ref sig .tc := ⟨.hbm, 290, rfl⟩
abbrev main_v192 : Ref sig .tc := ⟨.hbm, 291, rfl⟩
abbrev main_c_39 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev main_cst_40 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_call8_v0 : Ref sig .tc := ⟨.hbm, 304, rfl⟩
abbrev main_call8_cst : Ref sig .tc := ⟨.hbm, 305, rfl⟩
abbrev main_call8_v1 : Ref sig .tc := ⟨.hbm, 306, rfl⟩
abbrev main_call8_v2 : Ref sig .tc := ⟨.hbm, 307, rfl⟩
abbrev main_v203 : Ref sig .tc := ⟨.hbm, 308, rfl⟩
abbrev main_cst_41 : Ref sig .tc := ⟨.hbm, 309, rfl⟩
abbrev main_v204 : Ref sig .tc := ⟨.hbm, 310, rfl⟩
abbrev main_v205 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_c_42 : Ref sig .tc := ⟨.hbm, 317, rfl⟩
abbrev main_v211 : Ref sig .tc := ⟨.hbm, 318, rfl⟩
abbrev main_v212 : Ref sig .tc := ⟨.hbm, 319, rfl⟩
abbrev main_c_43 : Ref sig .tc := ⟨.hbm, 320, rfl⟩
abbrev main_v213 : Ref sig .tc := ⟨.hbm, 321, rfl⟩
abbrev main_v214 : Ref sig .tc := ⟨.hbm, 322, rfl⟩
abbrev main_v215 : Ref sig .tc := ⟨.hbm, 323, rfl⟩
abbrev main_v216 : Ref sig .tc := ⟨.hbm, 324, rfl⟩
abbrev main_v217 : Ref sig .tc := ⟨.hbm, 325, rfl⟩
abbrev main_v218 : Ref sig .tc := ⟨.hbm, 326, rfl⟩
abbrev main_v219 : Ref sig .tc := ⟨.hbm, 327, rfl⟩
abbrev main_cst_44 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_call9_v0 : Ref sig .tc := ⟨.hbm, 332, rfl⟩
abbrev main_call9_cst : Ref sig .tc := ⟨.hbm, 333, rfl⟩
abbrev main_call9_v1 : Ref sig .tc := ⟨.hbm, 334, rfl⟩
abbrev main_call9_v2 : Ref sig .tc := ⟨.hbm, 335, rfl⟩
abbrev main_v223 : Ref sig .tc := ⟨.hbm, 336, rfl⟩
abbrev main_cst_45 : Ref sig .tc := ⟨.hbm, 337, rfl⟩
abbrev main_v224 : Ref sig .tc := ⟨.hbm, 338, rfl⟩
abbrev main_v225 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_cst_46 : Ref sig .tc := ⟨.hbm, 346, rfl⟩
abbrev main_v232 : Ref sig .tc := ⟨.hbm, 347, rfl⟩
abbrev main_cst_47 : Ref sig .tc := ⟨.hbm, 348, rfl⟩
abbrev main_v233 : Ref sig .tc := ⟨.hbm, 349, rfl⟩
abbrev main_v234 : Ref sig .tc := ⟨.hbm, 350, rfl⟩
abbrev main_v235 : Ref sig .tc := ⟨.hbm, 351, rfl⟩
abbrev main_v236 : Ref sig .tc := ⟨.hbm, 352, rfl⟩
abbrev main_v237 : Ref sig .tc := ⟨.hbm, 353, rfl⟩
abbrev main_v238 : Ref sig .tc := ⟨.hbm, 354, rfl⟩
abbrev main_v239 : Ref sig .tc := ⟨.hbm, 355, rfl⟩
abbrev main_v240 : Ref sig .tc := ⟨.hbm, 356, rfl⟩
abbrev main_v241 : Ref sig .tc := ⟨.hbm, 357, rfl⟩
abbrev main_v242 : Ref sig .tc := ⟨.hbm, 358, rfl⟩
abbrev main_v243 : Ref sig .tc := ⟨.hbm, 359, rfl⟩
abbrev main_v244 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_v249 : Ref sig .tc := ⟨.hbm, 365, rfl⟩
abbrev main_cst_48 : Ref sig .tc := ⟨.hbm, 366, rfl⟩
abbrev main_v250 : Ref sig .tc := ⟨.hbm, 367, rfl⟩
abbrev main_v251 : Ref sig .tc := ⟨.hbm, 368, rfl⟩
abbrev main_c_49 : Ref sig .tc := ⟨.hbm, 369, rfl⟩
abbrev main_v252 : Ref sig .tc := ⟨.hbm, 370, rfl⟩
abbrev main_v253 : Ref sig .tc := ⟨.hbm, 371, rfl⟩
abbrev main_c_50 : Ref sig .tc := ⟨.hbm, 372, rfl⟩
abbrev main_v254 : Ref sig .tc := ⟨.hbm, 373, rfl⟩
abbrev main_v255 : Ref sig .tc := ⟨.hbm, 374, rfl⟩
abbrev main_v256 : Ref sig .tc := ⟨.hbm, 375, rfl⟩
abbrev main_v257 : Ref sig .tc := ⟨.hbm, 376, rfl⟩
abbrev main_v258 : Ref sig .tc := ⟨.hbm, 377, rfl⟩
abbrev main_cst_51 : Ref sig .tc := ⟨.hbm, 378, rfl⟩
abbrev main_v259 : Ref sig .tc := ⟨.hbm, 379, rfl⟩
abbrev main_v260 : Ref sig .tc := ⟨.hbm, 380, rfl⟩
abbrev main_v261 : Ref sig .tc := ⟨.hbm, 381, rfl⟩
abbrev main_v262 : Ref sig .tc := ⟨.hbm, 382, rfl⟩
abbrev main_v263 : Ref sig .tc := ⟨.hbm, 383, rfl⟩
abbrev main_v264 : Ref sig .tc := ⟨.hbm, 384, rfl⟩
abbrev main_v265 : Ref sig .tc := ⟨.hbm, 385, rfl⟩
abbrev main_v266 : Ref sig .tc := ⟨.hbm, 386, rfl⟩
abbrev main_v267 : Ref sig .tc := ⟨.hbm, 387, rfl⟩
abbrev main_v268 : Ref sig .tc := ⟨.hbm, 388, rfl⟩
abbrev main_v269 : Ref sig .tc := ⟨.hbm, 389, rfl⟩
abbrev main_v270 : Ref sig .tc := ⟨.hbm, 390, rfl⟩
abbrev main_v271 : Ref sig .tc := ⟨.hbm, 391, rfl⟩
abbrev main_v272 : Ref sig .tc := ⟨.hbm, 392, rfl⟩
abbrev main_v273 : Ref sig .tc := ⟨.hbm, 393, rfl⟩
abbrev main_v274 : Ref sig .tc := ⟨.hbm, 394, rfl⟩
abbrev main_v275 : Ref sig .tc := ⟨.hbm, 395, rfl⟩
abbrev main_v276 : Ref sig .tc := ⟨.hbm, 396, rfl⟩
abbrev main_v277 : Ref sig .tc := ⟨.hbm, 397, rfl⟩
abbrev main_cst_52 : Ref sig .tc := ⟨.hbm, 398, rfl⟩
abbrev main_v278 : Ref sig .tc := ⟨.hbm, 399, rfl⟩
abbrev main_v279 : Ref sig .tc := ⟨.hbm, 400, rfl⟩
abbrev main_cst_53 : Ref sig .tc := ⟨.hbm, 401, rfl⟩
abbrev main_v280 : Ref sig .tc := ⟨.hbm, 402, rfl⟩
abbrev main_v281 : Ref sig .tc := ⟨.hbm, 403, rfl⟩
abbrev main_v282 : Ref sig .tc := ⟨.hbm, 404, rfl⟩
abbrev main_v283 : Ref sig .tc := ⟨.hbm, 405, rfl⟩
abbrev main_v284 : Ref sig .tc := ⟨.hbm, 406, rfl⟩
abbrev main_v285 : Ref sig .tc := ⟨.hbm, 407, rfl⟩
abbrev main_cst_54 : Ref sig .tc := ⟨.hbm, 408, rfl⟩
abbrev main_v286 : Ref sig .tc := ⟨.hbm, 409, rfl⟩
abbrev main_v287 : Ref sig .tc := ⟨.hbm, 410, rfl⟩
abbrev main_v288 : Ref sig .tc := ⟨.hbm, 411, rfl⟩
abbrev main_v289 : Ref sig .tc := ⟨.hbm, 412, rfl⟩
abbrev main_v290 : Ref sig .tc := ⟨.hbm, 413, rfl⟩
abbrev main_v291 : Ref sig .tc := ⟨.hbm, 414, rfl⟩
abbrev main_v292 : Ref sig .tc := ⟨.hbm, 415, rfl⟩
abbrev main_v293 : Ref sig .tc := ⟨.hbm, 416, rfl⟩
abbrev main_v294 : Ref sig .tc := ⟨.hbm, 417, rfl⟩
abbrev main_v295 : Ref sig .tc := ⟨.hbm, 418, rfl⟩
abbrev main_v296 : Ref sig .tc := ⟨.hbm, 419, rfl⟩
abbrev main_v297 : Ref sig .tc := ⟨.hbm, 420, rfl⟩
abbrev main_v298 : Ref sig .tc := ⟨.hbm, 421, rfl⟩
abbrev main_cst_55 : Ref sig .tc := ⟨.hbm, 422, rfl⟩
abbrev main_call10_v0 : Ref sig .tc := ⟨.hbm, 423, rfl⟩
abbrev main_call10_v1 : Ref sig .tc := ⟨.hbm, 424, rfl⟩
abbrev main_v299 : Ref sig .tc := ⟨.hbm, 425, rfl⟩
abbrev main_cst_56 : Ref sig .tc := ⟨.hbm, 426, rfl⟩
abbrev main_v300 : Ref sig .tc := ⟨.hbm, 427, rfl⟩
abbrev main_v301 : Ref sig .tc := ⟨.hbm, 428, rfl⟩
abbrev main_v302 : Ref sig .tc := ⟨.hbm, 429, rfl⟩
abbrev main_v303 : Ref sig .tc := ⟨.hbm, 430, rfl⟩
abbrev main_v304 : Ref sig .tc := ⟨.hbm, 431, rfl⟩
abbrev main_v305 : Ref sig .tc := ⟨.hbm, 432, rfl⟩
abbrev main_cst_57 : Ref sig .tc := ⟨.hbm, 433, rfl⟩
abbrev main_v306 : Ref sig .tc := ⟨.hbm, 434, rfl⟩
abbrev main_call11_v0 : Ref sig .tc := ⟨.hbm, 435, rfl⟩
abbrev main_call11_cst : Ref sig .tc := ⟨.hbm, 436, rfl⟩
abbrev main_call11_v1 : Ref sig .tc := ⟨.hbm, 437, rfl⟩
abbrev main_v307 : Ref sig .tc := ⟨.hbm, 438, rfl⟩
abbrev main_call12_v0 : Ref sig .tc := ⟨.hbm, 439, rfl⟩
abbrev main_call12_cst : Ref sig .tc := ⟨.hbm, 440, rfl⟩
abbrev main_call12_v1 : Ref sig .tc := ⟨.hbm, 441, rfl⟩
abbrev main_v308 : Ref sig .tc := ⟨.hbm, 442, rfl⟩
abbrev main_cst_58 : Ref sig .tc := ⟨.hbm, 443, rfl⟩
abbrev main_v309 : Ref sig .tc := ⟨.hbm, 444, rfl⟩
abbrev main_v310 : Ref sig .tc := ⟨.hbm, 445, rfl⟩
abbrev main_cst_59 : Ref sig .tc := ⟨.hbm, 446, rfl⟩
abbrev main_v311 : Ref sig .tc := ⟨.hbm, 447, rfl⟩
abbrev main_v312 : Ref sig .tc := ⟨.hbm, 448, rfl⟩
abbrev main_v313 : Ref sig .tc := ⟨.hbm, 449, rfl⟩
abbrev main_v314 : Ref sig .tc := ⟨.hbm, 450, rfl⟩
abbrev main_v315 : Ref sig .tc := ⟨.hbm, 451, rfl⟩
abbrev main_v316 : Ref sig .tc := ⟨.hbm, 452, rfl⟩
abbrev main_cst_60 : Ref sig .tc := ⟨.hbm, 453, rfl⟩
abbrev main_v317 : Ref sig .tc := ⟨.hbm, 454, rfl⟩
abbrev main_v318 : Ref sig .tc := ⟨.hbm, 455, rfl⟩
abbrev main_cst_61 : Ref sig .tc := ⟨.hbm, 456, rfl⟩
abbrev main_call13_v0 : Ref sig .tc := ⟨.hbm, 457, rfl⟩
abbrev main_call13_v1 : Ref sig .tc := ⟨.hbm, 458, rfl⟩
abbrev main_v319 : Ref sig .tc := ⟨.hbm, 459, rfl⟩
abbrev main_cst_62 : Ref sig .tc := ⟨.hbm, 460, rfl⟩
abbrev main_v320 : Ref sig .tc := ⟨.hbm, 461, rfl⟩
abbrev main_cst_63 : Ref sig .tc := ⟨.hbm, 462, rfl⟩
abbrev main_v321 : Ref sig .tc := ⟨.hbm, 463, rfl⟩
abbrev main_v322 : Ref sig .tc := ⟨.hbm, 464, rfl⟩
abbrev main_v323 : Ref sig .tc := ⟨.hbm, 465, rfl⟩
abbrev main_v324 : Ref sig .tc := ⟨.hbm, 466, rfl⟩
abbrev main_v325 : Ref sig .tc := ⟨.hbm, 467, rfl⟩
abbrev main_v326 : Ref sig .tc := ⟨.hbm, 468, rfl⟩
abbrev main_cst_64 : Ref sig .tc := ⟨.hbm, 469, rfl⟩
abbrev main_v327 : Ref sig .tc := ⟨.hbm, 470, rfl⟩
abbrev main_v328 : Ref sig .tc := ⟨.hbm, 471, rfl⟩
abbrev main_v329 : Ref sig .tc := ⟨.hbm, 472, rfl⟩
abbrev main_v330 : Ref sig .tc := ⟨.hbm, 473, rfl⟩
abbrev main_v331 : Ref sig .tc := ⟨.hbm, 474, rfl⟩
abbrev main_v332 : Ref sig .tc := ⟨.hbm, 475, rfl⟩
abbrev main_v333 : Ref sig .tc := ⟨.hbm, 476, rfl⟩
abbrev main_cst_65 : Ref sig .tc := ⟨.hbm, 477, rfl⟩
abbrev main_v334 : Ref sig .tc := ⟨.hbm, 478, rfl⟩
abbrev main_v335 : Ref sig .tc := ⟨.hbm, 479, rfl⟩
abbrev main_v336 : Ref sig .tc := ⟨.hbm, 480, rfl⟩
abbrev main_v337 : Ref sig .tc := ⟨.hbm, 481, rfl⟩
abbrev main_v338 : Ref sig .tc := ⟨.hbm, 482, rfl⟩
abbrev main_cst_66 : Ref sig .tc := ⟨.hbm, 483, rfl⟩
abbrev main_v339 : Ref sig .tc := ⟨.hbm, 484, rfl⟩
abbrev main_v340 : Ref sig .tc := ⟨.hbm, 485, rfl⟩
abbrev main_cst_67 : Ref sig .tc := ⟨.hbm, 486, rfl⟩
abbrev main_v341 : Ref sig .tc := ⟨.hbm, 487, rfl⟩
abbrev main_v342 : Ref sig .tc := ⟨.hbm, 488, rfl⟩
abbrev main_v343 : Ref sig .tc := ⟨.hbm, 489, rfl⟩
abbrev main_v344 : Ref sig .tc := ⟨.hbm, 490, rfl⟩
abbrev main_v345 : Ref sig .tc := ⟨.hbm, 491, rfl⟩
abbrev main_v346 : Ref sig .tc := ⟨.hbm, 492, rfl⟩
abbrev main_cst_68 : Ref sig .tc := ⟨.hbm, 493, rfl⟩
abbrev main_v347 : Ref sig .tc := ⟨.hbm, 494, rfl⟩
abbrev main_cst_69 : Ref sig .tc := ⟨.hbm, 495, rfl⟩
abbrev main_v348 : Ref sig .tc := ⟨.hbm, 496, rfl⟩
abbrev main_v349 : Ref sig .tc := ⟨.hbm, 497, rfl⟩
abbrev main_v350 : Ref sig .tc := ⟨.hbm, 498, rfl⟩
abbrev main_v351 : Ref sig .tc := ⟨.hbm, 499, rfl⟩
abbrev main_v352 : Ref sig .tc := ⟨.hbm, 500, rfl⟩
abbrev main_v353 : Ref sig .tc := ⟨.hbm, 501, rfl⟩
abbrev main_cst_70 : Ref sig .tc := ⟨.hbm, 502, rfl⟩
abbrev main_v354 : Ref sig .tc := ⟨.hbm, 503, rfl⟩
abbrev main_v355 : Ref sig .tc := ⟨.hbm, 504, rfl⟩
abbrev main_v356 : Ref sig .tc := ⟨.hbm, 505, rfl⟩
abbrev main_v357 : Ref sig .tc := ⟨.hbm, 506, rfl⟩
abbrev main_values : Ref sig .tc := ⟨.hbm, 507, rfl⟩
abbrev main_indices : Ref sig .tc := ⟨.hbm, 508, rfl⟩
abbrev main_cst_71 : Ref sig .tc := ⟨.hbm, 509, rfl⟩
abbrev main_v358 : Ref sig .tc := ⟨.hbm, 510, rfl⟩
abbrev main_cst_72 : Ref sig .tc := ⟨.hbm, 511, rfl⟩
abbrev main_v359 : Ref sig .tc := ⟨.hbm, 512, rfl⟩
abbrev main_v360 : Ref sig .tc := ⟨.hbm, 513, rfl⟩
abbrev main_v361 : Ref sig .tc := ⟨.hbm, 514, rfl⟩
abbrev main_v362 : Ref sig .tc := ⟨.hbm, 515, rfl⟩
abbrev main_v363 : Ref sig .tc := ⟨.hbm, 516, rfl⟩
abbrev main_v364 : Ref sig .tc := ⟨.hbm, 517, rfl⟩
abbrev main_cst_73 : Ref sig .tc := ⟨.hbm, 518, rfl⟩
abbrev main_v365 : Ref sig .tc := ⟨.hbm, 519, rfl⟩
abbrev main_v366 : Ref sig .tc := ⟨.hbm, 520, rfl⟩
abbrev main_v367 : Ref sig .tc := ⟨.hbm, 521, rfl⟩
abbrev main_v368 : Ref sig .tc := ⟨.hbm, 522, rfl⟩
abbrev main_c_74 : Ref sig .tc := ⟨.hbm, 523, rfl⟩
abbrev main_v369 : Ref sig .tc := ⟨.hbm, 524, rfl⟩
abbrev main_v370 : Ref sig .tc := ⟨.hbm, 525, rfl⟩
abbrev main_c_75 : Ref sig .tc := ⟨.hbm, 526, rfl⟩
abbrev main_v371 : Ref sig .tc := ⟨.hbm, 527, rfl⟩
abbrev main_v372 : Ref sig .tc := ⟨.hbm, 528, rfl⟩
abbrev main_v373 : Ref sig .tc := ⟨.hbm, 529, rfl⟩
abbrev main_v374 : Ref sig .tc := ⟨.hbm, 530, rfl⟩
abbrev main_v375 : Ref sig .tc := ⟨.hbm, 531, rfl⟩
abbrev main_v376 : Ref sig .tc := ⟨.hbm, 532, rfl⟩
abbrev main_v377 : Ref sig .tc := ⟨.hbm, 533, rfl⟩
abbrev main_v378 : Ref sig .tc := ⟨.hbm, 534, rfl⟩
abbrev main_cst_76 : Ref sig .tc := ⟨.hbm, 535, rfl⟩
abbrev main_v379 : Ref sig .tc := ⟨.hbm, 536, rfl⟩
abbrev main_v380 : Ref sig .tc := ⟨.hbm, 537, rfl⟩
abbrev main_call14_v0 : Ref sig .tc := ⟨.hbm, 538, rfl⟩
abbrev main_call14_cst : Ref sig .tc := ⟨.hbm, 539, rfl⟩
abbrev main_call14_v1 : Ref sig .tc := ⟨.hbm, 540, rfl⟩
abbrev main_call14_v2 : Ref sig .tc := ⟨.hbm, 541, rfl⟩
abbrev main_v381 : Ref sig .tc := ⟨.hbm, 542, rfl⟩
abbrev main_cst_77 : Ref sig .tc := ⟨.hbm, 543, rfl⟩
abbrev main_v382 : Ref sig .tc := ⟨.hbm, 544, rfl⟩
abbrev main_v383 : Ref sig .tc := ⟨.hbm, 545, rfl⟩
abbrev main_v384 : Ref sig .tc := ⟨.hbm, 546, rfl⟩
abbrev main_v385 : Ref sig .tc := ⟨.hbm, 547, rfl⟩
abbrev main_v386 : Ref sig .tc := ⟨.hbm, 548, rfl⟩
abbrev main_v387 : Ref sig .tc := ⟨.hbm, 549, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x20000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1024x50 : Shape := ⟨2, ![1024, 50]⟩
abbrev S1024x1 : Shape := ⟨2, ![1024, 1]⟩
abbrev S20000x128 : Shape := ⟨2, ![20000, 128]⟩
abbrev S320000 : Shape := ⟨1, ![320000]⟩
abbrev S128x128 : Shape := ⟨2, ![128, 128]⟩
abbrev S128 : Shape := ⟨1, ![128]⟩
abbrev S128x1 : Shape := ⟨2, ![128, 1]⟩
abbrev S128x384 : Shape := ⟨2, ![128, 384]⟩
abbrev S320000x1 : Shape := ⟨2, ![320000, 1]⟩
abbrev S_ : Shape := ⟨0, ![]⟩
abbrev S320000x128 : Shape := ⟨2, ![320000, 128]⟩
abbrev S20000 : Shape := ⟨1, ![20000]⟩
abbrev S20000x1 : Shape := ⟨2, ![20000, 1]⟩
abbrev S1x20000x128 : Shape := ⟨3, ![1, 20000, 128]⟩
abbrev S3x20000x128 : Shape := ⟨3, ![3, 20000, 128]⟩
abbrev S20000x384 : Shape := ⟨2, ![20000, 384]⟩
abbrev S384x128 : Shape := ⟨2, ![384, 128]⟩
abbrev S1x128 : Shape := ⟨2, ![1, 128]⟩
abbrev S20001x128 : Shape := ⟨2, ![20001, 128]⟩
abbrev S1024x50x1 : Shape := ⟨3, ![1024, 50, 1]⟩
abbrev S1024x50x128 : Shape := ⟨3, ![1024, 50, 128]⟩
abbrev S1024x128 : Shape := ⟨2, ![1024, 128]⟩
abbrev S1024x1x128 : Shape := ⟨3, ![1024, 1, 128]⟩
abbrev S1024x1x50x128 : Shape := ⟨4, ![1024, 1, 50, 128]⟩
abbrev S1x1x128 : Shape := ⟨3, ![1, 1, 128]⟩
abbrev S1024 : Shape := ⟨1, ![1024]⟩
abbrev S50 : Shape := ⟨1, ![50]⟩
abbrev S1x50 : Shape := ⟨2, ![1, 50]⟩
abbrev S128x1024 : Shape := ⟨2, ![128, 1024]⟩
abbrev S1024x1024 : Shape := ⟨2, ![1024, 1024]⟩
abbrev S1x1024 : Shape := ⟨2, ![1, 1024]⟩
abbrev S1024x3 : Shape := ⟨2, ![1024, 3]⟩
abbrev S1024x3x1 : Shape := ⟨3, ![1024, 3, 1]⟩
abbrev S1024x3x128 : Shape := ⟨3, ![1024, 3, 128]⟩
abbrev S128x20000 : Shape := ⟨2, ![128, 20000]⟩
abbrev S1024x20000 : Shape := ⟨2, ![1024, 20000]⟩

abbrev nBuf : Space → Nat
  | .hbm => 574
  | .vmem => 0
  | .smem => 0
  | _ => 0

abbrev hbmTy0_0 (i : Nat) : BufTy := match i % 128 with
  | 0 => ⟨S1024x50, .i32⟩
  | 1 => ⟨S1024x1, .i32⟩
  | 2 => ⟨S1024x50, .i32⟩
  | 3 => ⟨S1024x50, .f32⟩
  | 4 => ⟨S20000x128, .f32⟩
  | 5 => ⟨S20000x128, .f32⟩
  | 6 => ⟨S20000x128, .f32⟩
  | 7 => ⟨S320000, .i32⟩
  | 8 => ⟨S320000, .i32⟩
  | 9 => ⟨S320000, .f32⟩
  | 10 => ⟨S320000, .i32⟩
  | 11 => ⟨S320000, .i32⟩
  | 12 => ⟨S320000, .f32⟩
  | 13 => ⟨S320000, .i32⟩
  | 14 => ⟨S320000, .i32⟩
  | 15 => ⟨S320000, .f32⟩
  | 16 => ⟨S128x128, .f32⟩
  | 17 => ⟨S128x128, .f32⟩
  | 18 => ⟨S128x128, .f32⟩
  | 19 => ⟨S128, .f32⟩
  | 20 => ⟨S128x128, .f32⟩
  | 21 => ⟨S128x1, .f32⟩
  | 22 => ⟨S128x384, .f32⟩
  | 23 => ⟨S128, .f32⟩
  | 24 => ⟨S128x128, .f32⟩
  | 25 => ⟨S128, .f32⟩
  | 26 => ⟨S128x128, .f32⟩
  | 27 => ⟨S20000x128, .f32⟩
  | 28 => ⟨S320000x1, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000x128, .f32⟩
  | 38 => ⟨S320000x128, .f32⟩
  | 39 => ⟨S320000x128, .f32⟩
  | 40 => ⟨S_, .f32⟩
  | 41 => ⟨S20000x128, .f32⟩
  | 42 => ⟨S320000x1, .i32⟩
  | 43 => ⟨S20000x128, .f32⟩
  | 44 => ⟨S20000x128, .f32⟩
  | 45 => ⟨S_, .f32⟩
  | 46 => ⟨S20000, .f32⟩
  | 47 => ⟨S20000x1, .f32⟩
  | 48 => ⟨S20000x1, .f32⟩
  | 49 => ⟨S_, .f32⟩
  | 50 => ⟨S20000x1, .f32⟩
  | 51 => ⟨S20000x1, .f32⟩
  | 52 => ⟨S20000x128, .f32⟩
  | 53 => ⟨S20000x128, .f32⟩
  | 54 => ⟨S128x128, .f32⟩
  | 55 => ⟨S20000x128, .f32⟩
  | 56 => ⟨S320000x1, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x128, .f32⟩
  | 66 => ⟨S320000x128, .f32⟩
  | 67 => ⟨S320000x128, .f32⟩
  | 68 => ⟨S_, .f32⟩
  | 69 => ⟨S20000x128, .f32⟩
  | 70 => ⟨S320000x1, .i32⟩
  | 71 => ⟨S20000x128, .f32⟩
  | 72 => ⟨S20000x128, .f32⟩
  | 73 => ⟨S_, .f32⟩
  | 74 => ⟨S20000, .f32⟩
  | 75 => ⟨S20000x1, .f32⟩
  | 76 => ⟨S20000x1, .f32⟩
  | 77 => ⟨S_, .f32⟩
  | 78 => ⟨S20000x1, .f32⟩
  | 79 => ⟨S20000x1, .f32⟩
  | 80 => ⟨S20000x128, .f32⟩
  | 81 => ⟨S20000x128, .f32⟩
  | 82 => ⟨S1x20000x128, .f32⟩
  | 83 => ⟨S1x20000x128, .f32⟩
  | 84 => ⟨S1x20000x128, .f32⟩
  | 85 => ⟨S3x20000x128, .f32⟩
  | 86 => ⟨S_, .f32⟩
  | 87 => ⟨S20000x128, .f32⟩
  | 88 => ⟨S_, .f32⟩
  | 89 => ⟨S20000x128, .f32⟩
  | 90 => ⟨S20000x128, .f32⟩
  | 91 => ⟨S128x128, .f32⟩
  | 92 => ⟨S20000x128, .f32⟩
  | 93 => ⟨S320000x1, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S320000x128, .f32⟩
  | 103 => ⟨S320000x128, .f32⟩
  | 104 => ⟨S320000x128, .f32⟩
  | 105 => ⟨S_, .f32⟩
  | 106 => ⟨S20000x128, .f32⟩
  | 107 => ⟨S320000x1, .i32⟩
  | 108 => ⟨S20000x128, .f32⟩
  | 109 => ⟨S20000x128, .f32⟩
  | 110 => ⟨S_, .f32⟩
  | 111 => ⟨S20000, .f32⟩
  | 112 => ⟨S20000x1, .f32⟩
  | 113 => ⟨S20000x1, .f32⟩
  | 114 => ⟨S_, .f32⟩
  | 115 => ⟨S20000x1, .f32⟩
  | 116 => ⟨S20000x1, .f32⟩
  | 117 => ⟨S20000x128, .f32⟩
  | 118 => ⟨S20000x128, .f32⟩
  | 119 => ⟨S128x128, .f32⟩
  | 120 => ⟨S20000x128, .f32⟩
  | 121 => ⟨S320000x1, .f32⟩
  | 122 => ⟨S_, .i32⟩
  | 123 => ⟨S320000, .i32⟩
  | 124 => ⟨S320000, .i1⟩
  | 125 => ⟨S_, .i32⟩
  | 126 => ⟨S320000, .i32⟩
  | 127 => ⟨S320000, .i32⟩
  | _ => ⟨S1024x50, .i32⟩

abbrev hbmTy0_1 (i : Nat) : BufTy := match i % 128 with
  | 0 => ⟨S320000, .i32⟩
  | 1 => ⟨S320000x1, .i32⟩
  | 2 => ⟨S320000x128, .f32⟩
  | 3 => ⟨S320000x128, .f32⟩
  | 4 => ⟨S320000x128, .f32⟩
  | 5 => ⟨S_, .f32⟩
  | 6 => ⟨S20000x128, .f32⟩
  | 7 => ⟨S320000x1, .i32⟩
  | 8 => ⟨S20000x128, .f32⟩
  | 9 => ⟨S20000x128, .f32⟩
  | 10 => ⟨S_, .f32⟩
  | 11 => ⟨S20000, .f32⟩
  | 12 => ⟨S20000x1, .f32⟩
  | 13 => ⟨S20000x1, .f32⟩
  | 14 => ⟨S_, .f32⟩
  | 15 => ⟨S20000x1, .f32⟩
  | 16 => ⟨S20000x1, .f32⟩
  | 17 => ⟨S20000x128, .f32⟩
  | 18 => ⟨S20000x128, .f32⟩
  | 19 => ⟨S1x20000x128, .f32⟩
  | 20 => ⟨S1x20000x128, .f32⟩
  | 21 => ⟨S1x20000x128, .f32⟩
  | 22 => ⟨S3x20000x128, .f32⟩
  | 23 => ⟨S_, .f32⟩
  | 24 => ⟨S20000x128, .f32⟩
  | 25 => ⟨S_, .f32⟩
  | 26 => ⟨S20000x128, .f32⟩
  | 27 => ⟨S20000x128, .f32⟩
  | 28 => ⟨S128x128, .f32⟩
  | 29 => ⟨S20000x128, .f32⟩
  | 30 => ⟨S320000x1, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000x128, .f32⟩
  | 40 => ⟨S320000x128, .f32⟩
  | 41 => ⟨S320000x128, .f32⟩
  | 42 => ⟨S_, .f32⟩
  | 43 => ⟨S20000x128, .f32⟩
  | 44 => ⟨S320000x1, .i32⟩
  | 45 => ⟨S20000x128, .f32⟩
  | 46 => ⟨S20000x128, .f32⟩
  | 47 => ⟨S_, .f32⟩
  | 48 => ⟨S20000, .f32⟩
  | 49 => ⟨S20000x1, .f32⟩
  | 50 => ⟨S20000x1, .f32⟩
  | 51 => ⟨S_, .f32⟩
  | 52 => ⟨S20000x1, .f32⟩
  | 53 => ⟨S20000x1, .f32⟩
  | 54 => ⟨S20000x128, .f32⟩
  | 55 => ⟨S20000x128, .f32⟩
  | 56 => ⟨S128x128, .f32⟩
  | 57 => ⟨S20000x128, .f32⟩
  | 58 => ⟨S320000x1, .f32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S320000x128, .f32⟩
  | 68 => ⟨S320000x128, .f32⟩
  | 69 => ⟨S320000x128, .f32⟩
  | 70 => ⟨S_, .f32⟩
  | 71 => ⟨S20000x128, .f32⟩
  | 72 => ⟨S320000x1, .i32⟩
  | 73 => ⟨S20000x128, .f32⟩
  | 74 => ⟨S20000x128, .f32⟩
  | 75 => ⟨S_, .f32⟩
  | 76 => ⟨S20000, .f32⟩
  | 77 => ⟨S20000x1, .f32⟩
  | 78 => ⟨S20000x1, .f32⟩
  | 79 => ⟨S_, .f32⟩
  | 80 => ⟨S20000x1, .f32⟩
  | 81 => ⟨S20000x1, .f32⟩
  | 82 => ⟨S20000x128, .f32⟩
  | 83 => ⟨S20000x128, .f32⟩
  | 84 => ⟨S1x20000x128, .f32⟩
  | 85 => ⟨S1x20000x128, .f32⟩
  | 86 => ⟨S1x20000x128, .f32⟩
  | 87 => ⟨S3x20000x128, .f32⟩
  | 88 => ⟨S_, .f32⟩
  | 89 => ⟨S20000x128, .f32⟩
  | 90 => ⟨S_, .f32⟩
  | 91 => ⟨S20000x128, .f32⟩
  | 92 => ⟨S20000x128, .f32⟩
  | 93 => ⟨S128x128, .f32⟩
  | 94 => ⟨S20000x128, .f32⟩
  | 95 => ⟨S320000x1, .f32⟩
  | 96 => ⟨S_, .i32⟩
  | 97 => ⟨S320000, .i32⟩
  | 98 => ⟨S320000, .i1⟩
  | 99 => ⟨S_, .i32⟩
  | 100 => ⟨S320000, .i32⟩
  | 101 => ⟨S320000, .i32⟩
  | 102 => ⟨S320000, .i32⟩
  | 103 => ⟨S320000x1, .i32⟩
  | 104 => ⟨S320000x128, .f32⟩
  | 105 => ⟨S320000x128, .f32⟩
  | 106 => ⟨S320000x128, .f32⟩
  | 107 => ⟨S_, .f32⟩
  | 108 => ⟨S20000x128, .f32⟩
  | 109 => ⟨S320000x1, .i32⟩
  | 110 => ⟨S20000x128, .f32⟩
  | 111 => ⟨S20000x128, .f32⟩
  | 112 => ⟨S_, .f32⟩
  | 113 => ⟨S20000, .f32⟩
  | 114 => ⟨S20000x1, .f32⟩
  | 115 => ⟨S20000x1, .f32⟩
  | 116 => ⟨S_, .f32⟩
  | 117 => ⟨S20000x1, .f32⟩
  | 118 => ⟨S20000x1, .f32⟩
  | 119 => ⟨S20000x128, .f32⟩
  | 120 => ⟨S20000x128, .f32⟩
  | 121 => ⟨S128x128, .f32⟩
  | 122 => ⟨S20000x128, .f32⟩
  | 123 => ⟨S320000x1, .f32⟩
  | 124 => ⟨S_, .i32⟩
  | 125 => ⟨S320000, .i32⟩
  | 126 => ⟨S320000, .i1⟩
  | 127 => ⟨S_, .i32⟩
  | _ => ⟨S1024x50, .i32⟩

abbrev hbmTy0_2 (i : Nat) : BufTy := match i % 128 with
  | 0 => ⟨S320000, .i32⟩
  | 1 => ⟨S320000, .i32⟩
  | 2 => ⟨S320000, .i32⟩
  | 3 => ⟨S320000x1, .i32⟩
  | 4 => ⟨S320000x128, .f32⟩
  | 5 => ⟨S320000x128, .f32⟩
  | 6 => ⟨S320000x128, .f32⟩
  | 7 => ⟨S_, .f32⟩
  | 8 => ⟨S20000x128, .f32⟩
  | 9 => ⟨S320000x1, .i32⟩
  | 10 => ⟨S20000x128, .f32⟩
  | 11 => ⟨S20000x128, .f32⟩
  | 12 => ⟨S_, .f32⟩
  | 13 => ⟨S20000, .f32⟩
  | 14 => ⟨S20000x1, .f32⟩
  | 15 => ⟨S20000x1, .f32⟩
  | 16 => ⟨S_, .f32⟩
  | 17 => ⟨S20000x1, .f32⟩
  | 18 => ⟨S20000x1, .f32⟩
  | 19 => ⟨S20000x128, .f32⟩
  | 20 => ⟨S20000x128, .f32⟩
  | 21 => ⟨S1x20000x128, .f32⟩
  | 22 => ⟨S1x20000x128, .f32⟩
  | 23 => ⟨S1x20000x128, .f32⟩
  | 24 => ⟨S3x20000x128, .f32⟩
  | 25 => ⟨S_, .f32⟩
  | 26 => ⟨S20000x128, .f32⟩
  | 27 => ⟨S_, .f32⟩
  | 28 => ⟨S20000x128, .f32⟩
  | 29 => ⟨S20000x128, .f32⟩
  | 30 => ⟨S128x128, .f32⟩
  | 31 => ⟨S20000x128, .f32⟩
  | 32 => ⟨S320000x1, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x128, .f32⟩
  | 42 => ⟨S320000x128, .f32⟩
  | 43 => ⟨S320000x128, .f32⟩
  | 44 => ⟨S_, .f32⟩
  | 45 => ⟨S20000x128, .f32⟩
  | 46 => ⟨S320000x1, .i32⟩
  | 47 => ⟨S20000x128, .f32⟩
  | 48 => ⟨S20000x128, .f32⟩
  | 49 => ⟨S_, .f32⟩
  | 50 => ⟨S20000, .f32⟩
  | 51 => ⟨S20000x1, .f32⟩
  | 52 => ⟨S20000x1, .f32⟩
  | 53 => ⟨S_, .f32⟩
  | 54 => ⟨S20000x1, .f32⟩
  | 55 => ⟨S20000x1, .f32⟩
  | 56 => ⟨S20000x128, .f32⟩
  | 57 => ⟨S20000x128, .f32⟩
  | 58 => ⟨S128x128, .f32⟩
  | 59 => ⟨S20000x128, .f32⟩
  | 60 => ⟨S320000x1, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S320000x128, .f32⟩
  | 70 => ⟨S320000x128, .f32⟩
  | 71 => ⟨S320000x128, .f32⟩
  | 72 => ⟨S_, .f32⟩
  | 73 => ⟨S20000x128, .f32⟩
  | 74 => ⟨S320000x1, .i32⟩
  | 75 => ⟨S20000x128, .f32⟩
  | 76 => ⟨S20000x128, .f32⟩
  | 77 => ⟨S_, .f32⟩
  | 78 => ⟨S20000, .f32⟩
  | 79 => ⟨S20000x1, .f32⟩
  | 80 => ⟨S20000x1, .f32⟩
  | 81 => ⟨S_, .f32⟩
  | 82 => ⟨S20000x1, .f32⟩
  | 83 => ⟨S20000x1, .f32⟩
  | 84 => ⟨S20000x128, .f32⟩
  | 85 => ⟨S20000x128, .f32⟩
  | 86 => ⟨S1x20000x128, .f32⟩
  | 87 => ⟨S1x20000x128, .f32⟩
  | 88 => ⟨S1x20000x128, .f32⟩
  | 89 => ⟨S3x20000x128, .f32⟩
  | 90 => ⟨S_, .f32⟩
  | 91 => ⟨S20000x128, .f32⟩
  | 92 => ⟨S_, .f32⟩
  | 93 => ⟨S20000x128, .f32⟩
  | 94 => ⟨S20000x128, .f32⟩
  | 95 => ⟨S20000x128, .f32⟩
  | 96 => ⟨S20000x128, .f32⟩
  | 97 => ⟨S20000x384, .f32⟩
  | 98 => ⟨S384x128, .f32⟩
  | 99 => ⟨S20000x128, .f32⟩
  | 100 => ⟨S1x128, .f32⟩
  | 101 => ⟨S20000x128, .f32⟩
  | 102 => ⟨S20000x128, .f32⟩
  | 103 => ⟨S20000x128, .f32⟩
  | 104 => ⟨S128x128, .f32⟩
  | 105 => ⟨S20000x128, .f32⟩
  | 106 => ⟨S1x128, .f32⟩
  | 107 => ⟨S20000x128, .f32⟩
  | 108 => ⟨S20000x128, .f32⟩
  | 109 => ⟨S20000x128, .f32⟩
  | 110 => ⟨S_, .f32⟩
  | 111 => ⟨S1x128, .f32⟩
  | 112 => ⟨S20001x128, .f32⟩
  | 113 => ⟨S_, .i32⟩
  | 114 => ⟨S1024x50, .i32⟩
  | 115 => ⟨S1024x50, .i1⟩
  | 116 => ⟨S_, .i32⟩
  | 117 => ⟨S1024x50, .i32⟩
  | 118 => ⟨S1024x50, .i32⟩
  | 119 => ⟨S1024x50, .i32⟩
  | 120 => ⟨S1024x50x1, .i32⟩
  | 121 => ⟨S1024x50x128, .f32⟩
  | 122 => ⟨S_, .f32⟩
  | 123 => ⟨S1024x128, .f32⟩
  | 124 => ⟨S1024x1, .f32⟩
  | 125 => ⟨S1024x128, .f32⟩
  | 126 => ⟨S1024x128, .f32⟩
  | 127 => ⟨S1024x50x1, .f32⟩
  | _ => ⟨S1024x50, .i32⟩

abbrev hbmTy0_3 (i : Nat) : BufTy := match i % 128 with
  | 0 => ⟨S1024x1x128, .f32⟩
  | 1 => ⟨S1024x1x50x128, .f32⟩
  | 2 => ⟨S1024x50x128, .f32⟩
  | 3 => ⟨S1024x50x128, .f32⟩
  | 4 => ⟨S128x128, .f32⟩
  | 5 => ⟨S1024x50x128, .f32⟩
  | 6 => ⟨S1x1x128, .f32⟩
  | 7 => ⟨S1024x50x128, .f32⟩
  | 8 => ⟨S1024x50x128, .f32⟩
  | 9 => ⟨S128x128, .f32⟩
  | 10 => ⟨S1024x50x128, .f32⟩
  | 11 => ⟨S1024x50x128, .f32⟩
  | 12 => ⟨S1024x50x128, .f32⟩
  | 13 => ⟨S1024x50x128, .f32⟩
  | 14 => ⟨S_, .f32⟩
  | 15 => ⟨S1024x50x128, .f32⟩
  | 16 => ⟨S1024x50x128, .f32⟩
  | 17 => ⟨S_, .f32⟩
  | 18 => ⟨S1024x50x128, .f32⟩
  | 19 => ⟨S1024x50x128, .f32⟩
  | 20 => ⟨S1024x50x1, .f32⟩
  | 21 => ⟨S1024x50x1, .f32⟩
  | 22 => ⟨S1024x50x128, .f32⟩
  | 23 => ⟨S1024x50x128, .f32⟩
  | 24 => ⟨S_, .f32⟩
  | 25 => ⟨S1024x128, .f32⟩
  | 26 => ⟨S1024, .i32⟩
  | 27 => ⟨S50, .i32⟩
  | 28 => ⟨S1x50, .i32⟩
  | 29 => ⟨S1024x1, .i32⟩
  | 30 => ⟨S1024x50, .i32⟩
  | 31 => ⟨S1024x50, .i32⟩
  | 32 => ⟨S1024x50, .i1⟩
  | 33 => ⟨S1024x1, .i32⟩
  | 34 => ⟨S1024x50, .i32⟩
  | 35 => ⟨S1024x50, .i32⟩
  | 36 => ⟨S1024x50, .i32⟩
  | 37 => ⟨S1024x50, .f32⟩
  | 38 => ⟨S_, .f32⟩
  | 39 => ⟨S_, .f32⟩
  | 40 => ⟨S1024x50, .f32⟩
  | 41 => ⟨S1024x50, .f32⟩
  | 42 => ⟨S_, .f32⟩
  | 43 => ⟨S1024x50, .f32⟩
  | 44 => ⟨S1024x50, .f32⟩
  | 45 => ⟨S1024x50, .f32⟩
  | 46 => ⟨S1024x1x128, .f32⟩
  | 47 => ⟨S1024x50x128, .f32⟩
  | 48 => ⟨S1024x50x128, .f32⟩
  | 49 => ⟨S_, .f32⟩
  | 50 => ⟨S1024x50, .f32⟩
  | 51 => ⟨S1024x50x128, .f32⟩
  | 52 => ⟨S_, .f32⟩
  | 53 => ⟨S1024x50, .f32⟩
  | 54 => ⟨S1024x50, .f32⟩
  | 55 => ⟨S1024x1x128, .f32⟩
  | 56 => ⟨S_, .f32⟩
  | 57 => ⟨S1024x1, .f32⟩
  | 58 => ⟨S1024x1, .f32⟩
  | 59 => ⟨S_, .f32⟩
  | 60 => ⟨S1024x50, .f32⟩
  | 61 => ⟨S1024x50, .f32⟩
  | 62 => ⟨S_, .f32⟩
  | 63 => ⟨S1024x1, .f32⟩
  | 64 => ⟨S1024x1, .f32⟩
  | 65 => ⟨S1024x50, .f32⟩
  | 66 => ⟨S1024x50, .f32⟩
  | 67 => ⟨S1024x50, .f32⟩
  | 68 => ⟨S1024x50, .f32⟩
  | 69 => ⟨S_, .f32⟩
  | 70 => ⟨S1024x50, .f32⟩
  | 71 => ⟨S1024x50, .i1⟩
  | 72 => ⟨S_, .f32⟩
  | 73 => ⟨S_, .f32⟩
  | 74 => ⟨S1024x50, .f32⟩
  | 75 => ⟨S1024x50, .f32⟩
  | 76 => ⟨S_, .f32⟩
  | 77 => ⟨S1024, .f32⟩
  | 78 => ⟨S_, .f32⟩
  | 79 => ⟨S1024, .f32⟩
  | 80 => ⟨S1024, .f32⟩
  | 81 => ⟨S1024x1, .f32⟩
  | 82 => ⟨S1024x50, .f32⟩
  | 83 => ⟨S1024x50, .f32⟩
  | 84 => ⟨S1024x50, .f32⟩
  | 85 => ⟨S_, .f32⟩
  | 86 => ⟨S1024, .f32⟩
  | 87 => ⟨S1024x1, .f32⟩
  | 88 => ⟨S1024x50, .f32⟩
  | 89 => ⟨S1024x50, .f32⟩
  | 90 => ⟨S1024x50x1, .f32⟩
  | 91 => ⟨S1024x50x128, .f32⟩
  | 92 => ⟨S1024x50x128, .f32⟩
  | 93 => ⟨S_, .f32⟩
  | 94 => ⟨S1024x128, .f32⟩
  | 95 => ⟨S1024x128, .f32⟩
  | 96 => ⟨S128x1024, .f32⟩
  | 97 => ⟨S1024x1024, .f32⟩
  | 98 => ⟨S1024x128, .f32⟩
  | 99 => ⟨S_, .f32⟩
  | 100 => ⟨S1024x128, .f32⟩
  | 101 => ⟨S1024x128, .f32⟩
  | 102 => ⟨S_, .f32⟩
  | 103 => ⟨S1024, .f32⟩
  | 104 => ⟨S1024, .f32⟩
  | 105 => ⟨S1024x1, .f32⟩
  | 106 => ⟨S1x1024, .f32⟩
  | 107 => ⟨S1024x1024, .f32⟩
  | 108 => ⟨S1024x1024, .f32⟩
  | 109 => ⟨S_, .f32⟩
  | 110 => ⟨S1024, .f32⟩
  | 111 => ⟨S_, .f32⟩
  | 112 => ⟨S1024, .f32⟩
  | 113 => ⟨S1024, .f32⟩
  | 114 => ⟨S1024x1, .f32⟩
  | 115 => ⟨S1024x1024, .f32⟩
  | 116 => ⟨S1024x1024, .f32⟩
  | 117 => ⟨S1024x1024, .f32⟩
  | 118 => ⟨S_, .f32⟩
  | 119 => ⟨S1024, .f32⟩
  | 120 => ⟨S1024x1, .f32⟩
  | 121 => ⟨S1024x1024, .f32⟩
  | 122 => ⟨S1024x1024, .f32⟩
  | 123 => ⟨S1024x3, .f32⟩
  | 124 => ⟨S1024x3, .i32⟩
  | 125 => ⟨S_, .f32⟩
  | 126 => ⟨S1024, .f32⟩
  | 127 => ⟨S_, .f32⟩
  | _ => ⟨S1024x50, .i32⟩

abbrev hbmTy0_4 (i : Nat) : BufTy := match i % 128 with
  | 0 => ⟨S1024, .f32⟩
  | 1 => ⟨S1024, .f32⟩
  | 2 => ⟨S1024x1, .f32⟩
  | 3 => ⟨S1024x3, .f32⟩
  | 4 => ⟨S1024x3, .f32⟩
  | 5 => ⟨S1024x3, .f32⟩
  | 6 => ⟨S_, .f32⟩
  | 7 => ⟨S1024, .f32⟩
  | 8 => ⟨S1024x1, .f32⟩
  | 9 => ⟨S1024x3, .f32⟩
  | 10 => ⟨S1024x3, .f32⟩
  | 11 => ⟨S_, .i32⟩
  | 12 => ⟨S1024x3, .i32⟩
  | 13 => ⟨S1024x3, .i1⟩
  | 14 => ⟨S_, .i32⟩
  | 15 => ⟨S1024x3, .i32⟩
  | 16 => ⟨S1024x3, .i32⟩
  | 17 => ⟨S1024x3, .i32⟩
  | 18 => ⟨S1024x3x1, .i32⟩
  | 19 => ⟨S1024x3x128, .f32⟩
  | 20 => ⟨S1024x3x1, .f32⟩
  | 21 => ⟨S1024x3x128, .f32⟩
  | 22 => ⟨S1024x3x128, .f32⟩
  | 23 => ⟨S_, .f32⟩
  | 24 => ⟨S1024x128, .f32⟩
  | 25 => ⟨S1024x128, .f32⟩
  | 26 => ⟨S1024x128, .f32⟩
  | 27 => ⟨S_, .f32⟩
  | 28 => ⟨S1024, .f32⟩
  | 29 => ⟨S1024x1, .f32⟩
  | 30 => ⟨S1024x1, .f32⟩
  | 31 => ⟨S_, .f32⟩
  | 32 => ⟨S1024x1, .f32⟩
  | 33 => ⟨S1024x1, .f32⟩
  | 34 => ⟨S1024x128, .f32⟩
  | 35 => ⟨S1024x128, .f32⟩
  | 36 => ⟨S1024x128, .f32⟩
  | 37 => ⟨S1024x128, .f32⟩
  | 38 => ⟨S_, .f32⟩
  | 39 => ⟨S1024, .f32⟩
  | 40 => ⟨S1024x1, .f32⟩
  | 41 => ⟨S1024x1, .f32⟩
  | 42 => ⟨S_, .f32⟩
  | 43 => ⟨S1024x1, .f32⟩
  | 44 => ⟨S1024x1, .f32⟩
  | 45 => ⟨S1024x128, .f32⟩
  | 46 => ⟨S1024x128, .f32⟩
  | 47 => ⟨S_, .f32⟩
  | 48 => ⟨S1024x128, .f32⟩
  | 49 => ⟨S1024x128, .f32⟩
  | 50 => ⟨S20000x128, .f32⟩
  | 51 => ⟨S_, .f32⟩
  | 52 => ⟨S20000, .f32⟩
  | 53 => ⟨S20000x1, .f32⟩
  | 54 => ⟨S20000x1, .f32⟩
  | 55 => ⟨S_, .f32⟩
  | 56 => ⟨S20000x1, .f32⟩
  | 57 => ⟨S20000x1, .f32⟩
  | 58 => ⟨S20000x128, .f32⟩
  | 59 => ⟨S20000x128, .f32⟩
  | 60 => ⟨S128x20000, .f32⟩
  | 61 => ⟨S1024x20000, .f32⟩
  | _ => ⟨S1024x50, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x50, .i32⟩

abbrev bufTy : (tb : Table) → Fin (tcTables nBuf tb) → BufTy
  | .hbm, ⟨i, _⟩ => hbmTy i
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_c : Ref sig .tc := ⟨.hbm, 29, rfl⟩
abbrev main_v3 : Ref sig .tc := ⟨.hbm, 30, rfl⟩
abbrev main_v4 : Ref sig .tc := ⟨.hbm, 31, rfl⟩
abbrev main_c_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_call0_v0 : Ref sig .tc := ⟨.hbm, 44, rfl⟩
abbrev main_call0_cst : Ref sig .tc := ⟨.hbm, 45, rfl⟩
abbrev main_call0_v1 : Ref sig .tc := ⟨.hbm, 46, rfl⟩
abbrev main_call0_v2 : Ref sig .tc := ⟨.hbm, 47, rfl⟩
abbrev main_v15 : Ref sig .tc := ⟨.hbm, 48, rfl⟩
abbrev main_cst_1 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_2 : Ref sig .tc := ⟨.hbm, 57, rfl⟩
abbrev main_v23 : Ref sig .tc := ⟨.hbm, 58, rfl⟩
abbrev main_v24 : Ref sig .tc := ⟨.hbm, 59, rfl⟩
abbrev main_c_3 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_call1_v0 : Ref sig .tc := ⟨.hbm, 72, rfl⟩
abbrev main_call1_cst : Ref sig .tc := ⟨.hbm, 73, rfl⟩
abbrev main_call1_v1 : Ref sig .tc := ⟨.hbm, 74, rfl⟩
abbrev main_call1_v2 : Ref sig .tc := ⟨.hbm, 75, rfl⟩
abbrev main_v35 : Ref sig .tc := ⟨.hbm, 76, rfl⟩
abbrev main_cst_5 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_6 : Ref sig .tc := ⟨.hbm, 86, rfl⟩
abbrev main_v44 : Ref sig .tc := ⟨.hbm, 87, rfl⟩
abbrev main_cst_7 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_8 : Ref sig .tc := ⟨.hbm, 94, rfl⟩
abbrev main_v50 : Ref sig .tc := ⟨.hbm, 95, rfl⟩
abbrev main_v51 : Ref sig .tc := ⟨.hbm, 96, rfl⟩
abbrev main_c_9 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_10 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_call2_v0 : Ref sig .tc := ⟨.hbm, 109, rfl⟩
abbrev main_call2_cst : Ref sig .tc := ⟨.hbm, 110, rfl⟩
abbrev main_call2_v1 : Ref sig .tc := ⟨.hbm, 111, rfl⟩
abbrev main_call2_v2 : Ref sig .tc := ⟨.hbm, 112, rfl⟩
abbrev main_v62 : Ref sig .tc := ⟨.hbm, 113, rfl⟩
abbrev main_cst_11 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_c_12 : Ref sig .tc := ⟨.hbm, 122, rfl⟩
abbrev main_v70 : Ref sig .tc := ⟨.hbm, 123, rfl⟩
abbrev main_v71 : Ref sig .tc := ⟨.hbm, 124, rfl⟩
abbrev main_c_13 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_cst_14 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_call3_v0 : Ref sig .tc := ⟨.hbm, 137, rfl⟩
abbrev main_call3_cst : Ref sig .tc := ⟨.hbm, 138, rfl⟩
abbrev main_call3_v1 : Ref sig .tc := ⟨.hbm, 139, rfl⟩
abbrev main_call3_v2 : Ref sig .tc := ⟨.hbm, 140, rfl⟩
abbrev main_v82 : Ref sig .tc := ⟨.hbm, 141, rfl⟩
abbrev main_cst_15 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_cst_16 : Ref sig .tc := ⟨.hbm, 151, rfl⟩
abbrev main_v91 : Ref sig .tc := ⟨.hbm, 152, rfl⟩
abbrev main_cst_17 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_c_18 : Ref sig .tc := ⟨.hbm, 159, rfl⟩
abbrev main_v97 : Ref sig .tc := ⟨.hbm, 160, rfl⟩
abbrev main_v98 : Ref sig .tc := ⟨.hbm, 161, rfl⟩
abbrev main_c_19 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_cst_20 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_call4_v0 : Ref sig .tc := ⟨.hbm, 174, rfl⟩
abbrev main_call4_cst : Ref sig .tc := ⟨.hbm, 175, rfl⟩
abbrev main_call4_v1 : Ref sig .tc := ⟨.hbm, 176, rfl⟩
abbrev main_call4_v2 : Ref sig .tc := ⟨.hbm, 177, rfl⟩
abbrev main_v109 : Ref sig .tc := ⟨.hbm, 178, rfl⟩
abbrev main_cst_21 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_c_22 : Ref sig .tc := ⟨.hbm, 187, rfl⟩
abbrev main_v117 : Ref sig .tc := ⟨.hbm, 188, rfl⟩
abbrev main_v118 : Ref sig .tc := ⟨.hbm, 189, rfl⟩
abbrev main_c_23 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_cst_24 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_call5_v0 : Ref sig .tc := ⟨.hbm, 202, rfl⟩
abbrev main_call5_cst : Ref sig .tc := ⟨.hbm, 203, rfl⟩
abbrev main_call5_v1 : Ref sig .tc := ⟨.hbm, 204, rfl⟩
abbrev main_call5_v2 : Ref sig .tc := ⟨.hbm, 205, rfl⟩
abbrev main_v129 : Ref sig .tc := ⟨.hbm, 206, rfl⟩
abbrev main_cst_25 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_cst_26 : Ref sig .tc := ⟨.hbm, 216, rfl⟩
abbrev main_v138 : Ref sig .tc := ⟨.hbm, 217, rfl⟩
abbrev main_cst_27 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_c_28 : Ref sig .tc := ⟨.hbm, 224, rfl⟩
abbrev main_v144 : Ref sig .tc := ⟨.hbm, 225, rfl⟩
abbrev main_v145 : Ref sig .tc := ⟨.hbm, 226, rfl⟩
abbrev main_c_29 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_cst_30 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_call6_v0 : Ref sig .tc := ⟨.hbm, 239, rfl⟩
abbrev main_call6_cst : Ref sig .tc := ⟨.hbm, 240, rfl⟩
abbrev main_call6_v1 : Ref sig .tc := ⟨.hbm, 241, rfl⟩
abbrev main_call6_v2 : Ref sig .tc := ⟨.hbm, 242, rfl⟩
abbrev main_v156 : Ref sig .tc := ⟨.hbm, 243, rfl⟩
abbrev main_cst_31 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_c_32 : Ref sig .tc := ⟨.hbm, 252, rfl⟩
abbrev main_v164 : Ref sig .tc := ⟨.hbm, 253, rfl⟩
abbrev main_v165 : Ref sig .tc := ⟨.hbm, 254, rfl⟩
abbrev main_c_33 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_cst_34 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_call7_v0 : Ref sig .tc := ⟨.hbm, 267, rfl⟩
abbrev main_call7_cst : Ref sig .tc := ⟨.hbm, 268, rfl⟩
abbrev main_call7_v1 : Ref sig .tc := ⟨.hbm, 269, rfl⟩
abbrev main_call7_v2 : Ref sig .tc := ⟨.hbm, 270, rfl⟩
abbrev main_v176 : Ref sig .tc := ⟨.hbm, 271, rfl⟩
abbrev main_cst_35 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_cst_36 : Ref sig .tc := ⟨.hbm, 281, rfl⟩
abbrev main_v185 : Ref sig .tc := ⟨.hbm, 282, rfl⟩
abbrev main_cst_37 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_c_38 : Ref sig .tc := ⟨.hbm, 289, rfl⟩
abbrev main_v191 : Ref sig .tc := ⟨.hbm, 290, rfl⟩
abbrev main_v192 : Ref sig .tc := ⟨.hbm, 291, rfl⟩
abbrev main_c_39 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev main_cst_40 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_call8_v0 : Ref sig .tc := ⟨.hbm, 304, rfl⟩
abbrev main_call8_cst : Ref sig .tc := ⟨.hbm, 305, rfl⟩
abbrev main_call8_v1 : Ref sig .tc := ⟨.hbm, 306, rfl⟩
abbrev main_call8_v2 : Ref sig .tc := ⟨.hbm, 307, rfl⟩
abbrev main_v203 : Ref sig .tc := ⟨.hbm, 308, rfl⟩
abbrev main_cst_41 : Ref sig .tc := ⟨.hbm, 309, rfl⟩
abbrev main_v204 : Ref sig .tc := ⟨.hbm, 310, rfl⟩
abbrev main_v205 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_c_42 : Ref sig .tc := ⟨.hbm, 317, rfl⟩
abbrev main_v211 : Ref sig .tc := ⟨.hbm, 318, rfl⟩
abbrev main_v212 : Ref sig .tc := ⟨.hbm, 319, rfl⟩
abbrev main_c_43 : Ref sig .tc := ⟨.hbm, 320, rfl⟩
abbrev main_v213 : Ref sig .tc := ⟨.hbm, 321, rfl⟩
abbrev main_v214 : Ref sig .tc := ⟨.hbm, 322, rfl⟩
abbrev main_v215 : Ref sig .tc := ⟨.hbm, 323, rfl⟩
abbrev main_v216 : Ref sig .tc := ⟨.hbm, 324, rfl⟩
abbrev main_v217 : Ref sig .tc := ⟨.hbm, 325, rfl⟩
abbrev main_v218 : Ref sig .tc := ⟨.hbm, 326, rfl⟩
abbrev main_v219 : Ref sig .tc := ⟨.hbm, 327, rfl⟩
abbrev main_cst_44 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_call9_v0 : Ref sig .tc := ⟨.hbm, 332, rfl⟩
abbrev main_call9_cst : Ref sig .tc := ⟨.hbm, 333, rfl⟩
abbrev main_call9_v1 : Ref sig .tc := ⟨.hbm, 334, rfl⟩
abbrev main_call9_v2 : Ref sig .tc := ⟨.hbm, 335, rfl⟩
abbrev main_v223 : Ref sig .tc := ⟨.hbm, 336, rfl⟩
abbrev main_cst_45 : Ref sig .tc := ⟨.hbm, 337, rfl⟩
abbrev main_v224 : Ref sig .tc := ⟨.hbm, 338, rfl⟩
abbrev main_v225 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_cst_46 : Ref sig .tc := ⟨.hbm, 346, rfl⟩
abbrev main_v232 : Ref sig .tc := ⟨.hbm, 347, rfl⟩
abbrev main_cst_47 : Ref sig .tc := ⟨.hbm, 348, rfl⟩
abbrev main_v233 : Ref sig .tc := ⟨.hbm, 349, rfl⟩
abbrev main_v234 : Ref sig .tc := ⟨.hbm, 350, rfl⟩
abbrev main_v235 : Ref sig .tc := ⟨.hbm, 351, rfl⟩
abbrev main_v236 : Ref sig .tc := ⟨.hbm, 352, rfl⟩
abbrev main_v237 : Ref sig .tc := ⟨.hbm, 353, rfl⟩
abbrev main_v238 : Ref sig .tc := ⟨.hbm, 354, rfl⟩
abbrev main_v239 : Ref sig .tc := ⟨.hbm, 355, rfl⟩
abbrev main_v240 : Ref sig .tc := ⟨.hbm, 356, rfl⟩
abbrev main_v241 : Ref sig .tc := ⟨.hbm, 357, rfl⟩
abbrev main_v242 : Ref sig .tc := ⟨.hbm, 358, rfl⟩
abbrev main_v243 : Ref sig .tc := ⟨.hbm, 359, rfl⟩
abbrev main_v244 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_v249 : Ref sig .tc := ⟨.hbm, 365, rfl⟩
abbrev main_cst_48 : Ref sig .tc := ⟨.hbm, 366, rfl⟩
abbrev main_v250 : Ref sig .tc := ⟨.hbm, 367, rfl⟩
abbrev main_v251 : Ref sig .tc := ⟨.hbm, 368, rfl⟩
abbrev main_c_49 : Ref sig .tc := ⟨.hbm, 369, rfl⟩
abbrev main_v252 : Ref sig .tc := ⟨.hbm, 370, rfl⟩
abbrev main_v253 : Ref sig .tc := ⟨.hbm, 371, rfl⟩
abbrev main_c_50 : Ref sig .tc := ⟨.hbm, 372, rfl⟩
abbrev main_v254 : Ref sig .tc := ⟨.hbm, 373, rfl⟩
abbrev main_v255 : Ref sig .tc := ⟨.hbm, 374, rfl⟩
abbrev main_v256 : Ref sig .tc := ⟨.hbm, 375, rfl⟩
abbrev main_v257 : Ref sig .tc := ⟨.hbm, 376, rfl⟩
abbrev main_v258 : Ref sig .tc := ⟨.hbm, 377, rfl⟩
abbrev main_cst_51 : Ref sig .tc := ⟨.hbm, 378, rfl⟩
abbrev main_v259 : Ref sig .tc := ⟨.hbm, 379, rfl⟩
abbrev main_v260 : Ref sig .tc := ⟨.hbm, 380, rfl⟩
abbrev main_v261 : Ref sig .tc := ⟨.hbm, 381, rfl⟩
abbrev main_v262 : Ref sig .tc := ⟨.hbm, 382, rfl⟩
abbrev main_v263 : Ref sig .tc := ⟨.hbm, 383, rfl⟩
abbrev main_v264 : Ref sig .tc := ⟨.hbm, 384, rfl⟩
abbrev main_v265 : Ref sig .tc := ⟨.hbm, 385, rfl⟩
abbrev main_v266 : Ref sig .tc := ⟨.hbm, 386, rfl⟩
abbrev main_v267 : Ref sig .tc := ⟨.hbm, 387, rfl⟩
abbrev main_v268 : Ref sig .tc := ⟨.hbm, 388, rfl⟩
abbrev main_v269 : Ref sig .tc := ⟨.hbm, 389, rfl⟩
abbrev main_v270 : Ref sig .tc := ⟨.hbm, 390, rfl⟩
abbrev main_v271 : Ref sig .tc := ⟨.hbm, 391, rfl⟩
abbrev main_v272 : Ref sig .tc := ⟨.hbm, 392, rfl⟩
abbrev main_v273 : Ref sig .tc := ⟨.hbm, 393, rfl⟩
abbrev main_v274 : Ref sig .tc := ⟨.hbm, 394, rfl⟩
abbrev main_v275 : Ref sig .tc := ⟨.hbm, 395, rfl⟩
abbrev main_v276 : Ref sig .tc := ⟨.hbm, 396, rfl⟩
abbrev main_v277 : Ref sig .tc := ⟨.hbm, 397, rfl⟩
abbrev main_cst_52 : Ref sig .tc := ⟨.hbm, 398, rfl⟩
abbrev main_v278 : Ref sig .tc := ⟨.hbm, 399, rfl⟩
abbrev main_v279 : Ref sig .tc := ⟨.hbm, 400, rfl⟩
abbrev main_cst_53 : Ref sig .tc := ⟨.hbm, 401, rfl⟩
abbrev main_v280 : Ref sig .tc := ⟨.hbm, 402, rfl⟩
abbrev main_v281 : Ref sig .tc := ⟨.hbm, 403, rfl⟩
abbrev main_v282 : Ref sig .tc := ⟨.hbm, 404, rfl⟩
abbrev main_v283 : Ref sig .tc := ⟨.hbm, 405, rfl⟩
abbrev main_v284 : Ref sig .tc := ⟨.hbm, 406, rfl⟩
abbrev main_v285 : Ref sig .tc := ⟨.hbm, 407, rfl⟩
abbrev main_cst_54 : Ref sig .tc := ⟨.hbm, 408, rfl⟩
abbrev main_v286 : Ref sig .tc := ⟨.hbm, 409, rfl⟩
abbrev main_v287 : Ref sig .tc := ⟨.hbm, 410, rfl⟩
abbrev main_v288 : Ref sig .tc := ⟨.hbm, 411, rfl⟩
abbrev main_v289 : Ref sig .tc := ⟨.hbm, 412, rfl⟩
abbrev main_v290 : Ref sig .tc := ⟨.hbm, 413, rfl⟩
abbrev main_v291 : Ref sig .tc := ⟨.hbm, 414, rfl⟩
abbrev main_v292 : Ref sig .tc := ⟨.hbm, 415, rfl⟩
abbrev main_v293 : Ref sig .tc := ⟨.hbm, 416, rfl⟩
abbrev main_v294 : Ref sig .tc := ⟨.hbm, 417, rfl⟩
abbrev main_v295 : Ref sig .tc := ⟨.hbm, 418, rfl⟩
abbrev main_v296 : Ref sig .tc := ⟨.hbm, 419, rfl⟩
abbrev main_v297 : Ref sig .tc := ⟨.hbm, 420, rfl⟩
abbrev main_v298 : Ref sig .tc := ⟨.hbm, 421, rfl⟩
abbrev main_cst_55 : Ref sig .tc := ⟨.hbm, 422, rfl⟩
abbrev main_call10_v0 : Ref sig .tc := ⟨.hbm, 423, rfl⟩
abbrev main_call10_v1 : Ref sig .tc := ⟨.hbm, 424, rfl⟩
abbrev main_v299 : Ref sig .tc := ⟨.hbm, 425, rfl⟩
abbrev main_cst_56 : Ref sig .tc := ⟨.hbm, 426, rfl⟩
abbrev main_v300 : Ref sig .tc := ⟨.hbm, 427, rfl⟩
abbrev main_v301 : Ref sig .tc := ⟨.hbm, 428, rfl⟩
abbrev main_v302 : Ref sig .tc := ⟨.hbm, 429, rfl⟩
abbrev main_v303 : Ref sig .tc := ⟨.hbm, 430, rfl⟩
abbrev main_v304 : Ref sig .tc := ⟨.hbm, 431, rfl⟩
abbrev main_v305 : Ref sig .tc := ⟨.hbm, 432, rfl⟩
abbrev main_cst_57 : Ref sig .tc := ⟨.hbm, 433, rfl⟩
abbrev main_v306 : Ref sig .tc := ⟨.hbm, 434, rfl⟩
abbrev main_call11_v0 : Ref sig .tc := ⟨.hbm, 435, rfl⟩
abbrev main_call11_cst : Ref sig .tc := ⟨.hbm, 436, rfl⟩
abbrev main_call11_v1 : Ref sig .tc := ⟨.hbm, 437, rfl⟩
abbrev main_v307 : Ref sig .tc := ⟨.hbm, 438, rfl⟩
abbrev main_call12_v0 : Ref sig .tc := ⟨.hbm, 439, rfl⟩
abbrev main_call12_cst : Ref sig .tc := ⟨.hbm, 440, rfl⟩
abbrev main_call12_v1 : Ref sig .tc := ⟨.hbm, 441, rfl⟩
abbrev main_v308 : Ref sig .tc := ⟨.hbm, 442, rfl⟩
abbrev main_cst_58 : Ref sig .tc := ⟨.hbm, 443, rfl⟩
abbrev main_v309 : Ref sig .tc := ⟨.hbm, 444, rfl⟩
abbrev main_v310 : Ref sig .tc := ⟨.hbm, 445, rfl⟩
abbrev main_cst_59 : Ref sig .tc := ⟨.hbm, 446, rfl⟩
abbrev main_v311 : Ref sig .tc := ⟨.hbm, 447, rfl⟩
abbrev main_v312 : Ref sig .tc := ⟨.hbm, 448, rfl⟩
abbrev main_v313 : Ref sig .tc := ⟨.hbm, 449, rfl⟩
abbrev main_v314 : Ref sig .tc := ⟨.hbm, 450, rfl⟩
abbrev main_v315 : Ref sig .tc := ⟨.hbm, 451, rfl⟩
abbrev main_v316 : Ref sig .tc := ⟨.hbm, 452, rfl⟩
abbrev main_cst_60 : Ref sig .tc := ⟨.hbm, 453, rfl⟩
abbrev main_v317 : Ref sig .tc := ⟨.hbm, 454, rfl⟩
abbrev main_v318 : Ref sig .tc := ⟨.hbm, 455, rfl⟩
abbrev main_cst_61 : Ref sig .tc := ⟨.hbm, 456, rfl⟩
abbrev main_call13_v0 : Ref sig .tc := ⟨.hbm, 457, rfl⟩
abbrev main_call13_v1 : Ref sig .tc := ⟨.hbm, 458, rfl⟩
abbrev main_v319 : Ref sig .tc := ⟨.hbm, 459, rfl⟩
abbrev main_cst_62 : Ref sig .tc := ⟨.hbm, 460, rfl⟩
abbrev main_v320 : Ref sig .tc := ⟨.hbm, 461, rfl⟩
abbrev main_cst_63 : Ref sig .tc := ⟨.hbm, 462, rfl⟩
abbrev main_v321 : Ref sig .tc := ⟨.hbm, 463, rfl⟩
abbrev main_v322 : Ref sig .tc := ⟨.hbm, 464, rfl⟩
abbrev main_v323 : Ref sig .tc := ⟨.hbm, 465, rfl⟩
abbrev main_v324 : Ref sig .tc := ⟨.hbm, 466, rfl⟩
abbrev main_v325 : Ref sig .tc := ⟨.hbm, 467, rfl⟩
abbrev main_v326 : Ref sig .tc := ⟨.hbm, 468, rfl⟩
abbrev main_cst_64 : Ref sig .tc := ⟨.hbm, 469, rfl⟩
abbrev main_v327 : Ref sig .tc := ⟨.hbm, 470, rfl⟩
abbrev main_v328 : Ref sig .tc := ⟨.hbm, 471, rfl⟩
abbrev main_v329 : Ref sig .tc := ⟨.hbm, 472, rfl⟩
abbrev main_v330 : Ref sig .tc := ⟨.hbm, 473, rfl⟩
abbrev main_v331 : Ref sig .tc := ⟨.hbm, 474, rfl⟩
abbrev main_v332 : Ref sig .tc := ⟨.hbm, 475, rfl⟩
abbrev main_v333 : Ref sig .tc := ⟨.hbm, 476, rfl⟩
abbrev main_cst_65 : Ref sig .tc := ⟨.hbm, 477, rfl⟩
abbrev main_v334 : Ref sig .tc := ⟨.hbm, 478, rfl⟩
abbrev main_v335 : Ref sig .tc := ⟨.hbm, 479, rfl⟩
abbrev main_v336 : Ref sig .tc := ⟨.hbm, 480, rfl⟩
abbrev main_v337 : Ref sig .tc := ⟨.hbm, 481, rfl⟩
abbrev main_v338 : Ref sig .tc := ⟨.hbm, 482, rfl⟩
abbrev main_cst_66 : Ref sig .tc := ⟨.hbm, 483, rfl⟩
abbrev main_v339 : Ref sig .tc := ⟨.hbm, 484, rfl⟩
abbrev main_v340 : Ref sig .tc := ⟨.hbm, 485, rfl⟩
abbrev main_cst_67 : Ref sig .tc := ⟨.hbm, 486, rfl⟩
abbrev main_v341 : Ref sig .tc := ⟨.hbm, 487, rfl⟩
abbrev main_v342 : Ref sig .tc := ⟨.hbm, 488, rfl⟩
abbrev main_v343 : Ref sig .tc := ⟨.hbm, 489, rfl⟩
abbrev main_v344 : Ref sig .tc := ⟨.hbm, 490, rfl⟩
abbrev main_v345 : Ref sig .tc := ⟨.hbm, 491, rfl⟩
abbrev main_v346 : Ref sig .tc := ⟨.hbm, 492, rfl⟩
abbrev main_cst_68 : Ref sig .tc := ⟨.hbm, 493, rfl⟩
abbrev main_v347 : Ref sig .tc := ⟨.hbm, 494, rfl⟩
abbrev main_cst_69 : Ref sig .tc := ⟨.hbm, 495, rfl⟩
abbrev main_v348 : Ref sig .tc := ⟨.hbm, 496, rfl⟩
abbrev main_v349 : Ref sig .tc := ⟨.hbm, 497, rfl⟩
abbrev main_v350 : Ref sig .tc := ⟨.hbm, 498, rfl⟩
abbrev main_v351 : Ref sig .tc := ⟨.hbm, 499, rfl⟩
abbrev main_v352 : Ref sig .tc := ⟨.hbm, 500, rfl⟩
abbrev main_v353 : Ref sig .tc := ⟨.hbm, 501, rfl⟩
abbrev main_cst_70 : Ref sig .tc := ⟨.hbm, 502, rfl⟩
abbrev main_v354 : Ref sig .tc := ⟨.hbm, 503, rfl⟩
abbrev main_v355 : Ref sig .tc := ⟨.hbm, 504, rfl⟩
abbrev main_v356 : Ref sig .tc := ⟨.hbm, 505, rfl⟩
abbrev main_v357 : Ref sig .tc := ⟨.hbm, 506, rfl⟩
abbrev main_values : Ref sig .tc := ⟨.hbm, 507, rfl⟩
abbrev main_indices : Ref sig .tc := ⟨.hbm, 508, rfl⟩
abbrev main_cst_71 : Ref sig .tc := ⟨.hbm, 509, rfl⟩
abbrev main_v358 : Ref sig .tc := ⟨.hbm, 510, rfl⟩
abbrev main_cst_72 : Ref sig .tc := ⟨.hbm, 511, rfl⟩
abbrev main_v359 : Ref sig .tc := ⟨.hbm, 512, rfl⟩
abbrev main_v360 : Ref sig .tc := ⟨.hbm, 513, rfl⟩
abbrev main_v361 : Ref sig .tc := ⟨.hbm, 514, rfl⟩
abbrev main_v362 : Ref sig .tc := ⟨.hbm, 515, rfl⟩
abbrev main_v363 : Ref sig .tc := ⟨.hbm, 516, rfl⟩
abbrev main_v364 : Ref sig .tc := ⟨.hbm, 517, rfl⟩
abbrev main_cst_73 : Ref sig .tc := ⟨.hbm, 518, rfl⟩
abbrev main_v365 : Ref sig .tc := ⟨.hbm, 519, rfl⟩
abbrev main_v366 : Ref sig .tc := ⟨.hbm, 520, rfl⟩
abbrev main_v367 : Ref sig .tc := ⟨.hbm, 521, rfl⟩
abbrev main_v368 : Ref sig .tc := ⟨.hbm, 522, rfl⟩
abbrev main_c_74 : Ref sig .tc := ⟨.hbm, 523, rfl⟩
abbrev main_v369 : Ref sig .tc := ⟨.hbm, 524, rfl⟩
abbrev main_v370 : Ref sig .tc := ⟨.hbm, 525, rfl⟩
abbrev main_c_75 : Ref sig .tc := ⟨.hbm, 526, rfl⟩
abbrev main_v371 : Ref sig .tc := ⟨.hbm, 527, rfl⟩
abbrev main_v372 : Ref sig .tc := ⟨.hbm, 528, rfl⟩
abbrev main_v373 : Ref sig .tc := ⟨.hbm, 529, rfl⟩
abbrev main_v374 : Ref sig .tc := ⟨.hbm, 530, rfl⟩
abbrev main_v375 : Ref sig .tc := ⟨.hbm, 531, rfl⟩
abbrev main_v376 : Ref sig .tc := ⟨.hbm, 532, rfl⟩
abbrev main_v377 : Ref sig .tc := ⟨.hbm, 533, rfl⟩
abbrev main_v378 : Ref sig .tc := ⟨.hbm, 534, rfl⟩
abbrev main_cst_76 : Ref sig .tc := ⟨.hbm, 535, rfl⟩
abbrev main_v379 : Ref sig .tc := ⟨.hbm, 536, rfl⟩
abbrev main_v380 : Ref sig .tc := ⟨.hbm, 537, rfl⟩
abbrev main_call14_v0 : Ref sig .tc := ⟨.hbm, 538, rfl⟩
abbrev main_call14_cst : Ref sig .tc := ⟨.hbm, 539, rfl⟩
abbrev main_call14_v1 : Ref sig .tc := ⟨.hbm, 540, rfl⟩
abbrev main_call14_v2 : Ref sig .tc := ⟨.hbm, 541, rfl⟩
abbrev main_v381 : Ref sig .tc := ⟨.hbm, 542, rfl⟩
abbrev main_cst_77 : Ref sig .tc := ⟨.hbm, 543, rfl⟩
abbrev main_v382 : Ref sig .tc := ⟨.hbm, 544, rfl⟩
abbrev main_v383 : Ref sig .tc := ⟨.hbm, 545, rfl⟩
abbrev main_v384 : Ref sig .tc := ⟨.hbm, 546, rfl⟩
abbrev main_v385 : Ref sig .tc := ⟨.hbm, 547, rfl⟩
abbrev main_v386 : Ref sig .tc := ⟨.hbm, 548, rfl⟩
abbrev main_call15_v0 : Ref sig .tc := ⟨.hbm, 549, rfl⟩
abbrev main_call15_cst : Ref sig .tc := ⟨.hbm, 550, rfl⟩
abbrev main_call15_v1 : Ref sig .tc := ⟨.hbm, 551, rfl⟩
abbrev main_call15_v2 : Ref sig .tc := ⟨.hbm, 552, rfl⟩
abbrev main_v387 : Ref sig .tc := ⟨.hbm, 553, rfl⟩
abbrev main_cst_78 : Ref sig .tc := ⟨.hbm, 554, rfl⟩
abbrev main_v388 : Ref sig .tc := ⟨.hbm, 555, rfl⟩
abbrev main_v389 : Ref sig .tc := ⟨.hbm, 556, rfl⟩
abbrev main_v390 : Ref sig .tc := ⟨.hbm, 557, rfl⟩
abbrev main_v391 : Ref sig .tc := ⟨.hbm, 558, rfl⟩
abbrev main_cst_79 : Ref sig .tc := ⟨.hbm, 559, rfl⟩
abbrev main_v392 : Ref sig .tc := ⟨.hbm, 560, rfl⟩
abbrev main_v393 : Ref sig .tc := ⟨.hbm, 561, rfl⟩
abbrev main_call16_v0 : Ref sig .tc := ⟨.hbm, 562, rfl⟩
abbrev main_call16_cst : Ref sig .tc := ⟨.hbm, 563, rfl⟩
abbrev main_call16_v1 : Ref sig .tc := ⟨.hbm, 564, rfl⟩
abbrev main_call16_v2 : Ref sig .tc := ⟨.hbm, 565, rfl⟩
abbrev main_v394 : Ref sig .tc := ⟨.hbm, 566, rfl⟩
abbrev main_cst_80 : Ref sig .tc := ⟨.hbm, 567, rfl⟩
abbrev main_v395 : Ref sig .tc := ⟨.hbm, 568, rfl⟩
abbrev main_v396 : Ref sig .tc := ⟨.hbm, 569, rfl⟩
abbrev main_v397 : Ref sig .tc := ⟨.hbm, 570, rfl⟩
abbrev main_v398 : Ref sig .tc := ⟨.hbm, 571, rfl⟩
abbrev main_v399 : Ref sig .tc := ⟨.hbm, 572, rfl⟩
abbrev main_v400 : Ref sig .tc := ⟨.hbm, 573, rfl⟩

abbrev nD : Nat := 1
abbrev τ : Topo := Topo.v7x

variable {F : FTy → Type} [FloatOps F]
-- ==== Proof.Same.lean ====
/- The kernel and the kernel read over the extended reals are one program, at every choice of values: no operation was rewritten
   between the two. Here at the machine's own floats. -/
module

public import proofs.«01_k».proof.Kernel
public import proofs.«01_k».proof.KernelIdeal
public import Idealize.ShloMosaic.PureOps.BitExact

@[expose] public section

set_option maxRecDepth 100000

noncomputable section

namespace Cert.Same

open Idealize.ShloMosaic

variable [Cert.Kernel.Facts] [Cert.KernelIdeal.Facts]

/-- The body of the pallas_call, under its label. -/
theorem defs₀_eq : @Cert.Kernel.defs₀ Bits _ _ = @Cert.KernelIdeal.defs₀ Bits _ _ := by
  refine congrArg Defs.onTc ?_
  funext l a
  obtain rfl : l = 0 := Subsingleton.elim _ _
  rfl

/-- The definitions the program calls. -/
theorem defs_eq : @Cert.Kernel.defs Bits _ _ = @Cert.KernelIdeal.defs Bits _ _ :=
  congrArg (Pipeline.defs Cert.KernelIdeal.pcfgs) defs₀_eq

set_option maxHeartbeats 2000000 in
/-- @main. -/
theorem main_eq : @Cert.Kernel.main Bits _ _ = @Cert.KernelIdeal.main Bits _ _ := by rfl

end Cert.Same

end
-- ==== Proof.Twin.lean ====
/- Two host programs that run the same operations on buffers of the same number.

   The kernel's @main and the reference's @main are printed over two signatures: their buffers are different types of
   references, so that no equation can be stated between a line of one and a line of the other. Both number the
   tensor values of @main in program order, though, so as long as the two texts agree, buffer `k` of one is buffer `k` of the other.
   `Agree n V W` says that the first `n` device buffers hold the same contents on both sides; `Twin n op op'` that two
   operations write buffer `n` and keep that agreement; `Twins` that two lines do so operation by operation. -/
module

public import Idealize.ShloMosaic.Lib.StableHlo.Run

@[expose] public section

noncomputable section

namespace Cert.Twin

open Idealize.ShloMosaic Idealize.ShloMosaic.TcCoe Idealize.ShloMosaic.StableHlo

variable {τ₁ τ₂ : Topo} {sig₁ sig₂ : RefSig} {Val : EltTy → Type}

/-- `a` and `b` are buffer number `k` of device memory, on the left and on the right, and of one type. -/
structure At (k : Nat) (a : Ref sig₁ .tc) (b : Ref sig₂ .tc) : Prop where
  left_hbm : a.space = .hbm
  right_hbm : b.space = .hbm
  left_idx : a.idx.val = k
  right_idx : b.idx.val = k
  ty : a.ty = b.ty

/-- The first `n` device buffers hold the same contents on both sides. -/
def Agree (n : Nat) (V : Valuation τ₁ sig₁ Val) (W : Valuation τ₂ sig₂ Val) : Prop :=
  ∀ (k : Nat) (a : Ref sig₁ .tc) (b : Ref sig₂ .tc), At k a b → k < n →
    HEq (V (Proc.devRef .tc a)) (W (Proc.devRef .tc b))

/-- Two operations that write buffer `n`, and agree on what they write there whenever the buffers below `n` agree. -/
structure Twin (n : Nat) (op₁ : HloOp τ₁ sig₁ Val) (op₂ : HloOp τ₂ sig₂ Val) : Prop where
  out : ∃ (y₁ : Ref sig₁ .tc) (y₂ : Ref sig₂ .tc), At n y₁ y₂
    ∧ op₁.writes = {Proc.devRef .tc y₁} ∧ op₂.writes = {Proc.devRef .tc y₂}
    ∧ ∀ V W, Agree n V W → HEq (op₁.result V (Proc.devRef .tc y₁)) (op₂.result W (Proc.devRef .tc y₂))

/-- A device buffer is its number. -/
theorem ref_eq {sig : RefSig} {a b : Ref sig .tc} (ha : a.space = .hbm) (hb : b.space = .hbm)
    (h : a.idx.val = b.idx.val) : a = b := by
  obtain ⟨sa, ia, na⟩ := a
  obtain ⟨sb, ib, nb⟩ := b
  dsimp only at ha hb
  subst ha; subst hb
  have : ia = ib := Fin.ext h
  subst this
  rfl

/-- One step: the buffers below `n + 1` agree after twin operations that write buffer `n`. -/
theorem Twin.step {n : Nat} {op₁ : HloOp τ₁ sig₁ Val} {op₂ : HloOp τ₂ sig₂ Val} (h : Twin n op₁ op₂)
    {V : Valuation τ₁ sig₁ Val} {W : Valuation τ₂ sig₂ Val} (hA : Agree n V W) :
    Agree (n + 1) (op₁.result V) (op₂.result W) := by
  obtain ⟨y₁, y₂, hy, w₁, w₂, hr⟩ := h.out
  intro k a b hab hk
  rcases Nat.lt_succ_iff_lt_or_eq.mp hk with hlt | rfl
  · have n₁ : Proc.devRef (τ := τ₁) .tc a ∉ op₁.writes := by
      rw [w₁, Finset.mem_singleton]
      exact devRef_ne_of_ne fun e => by have := hab.left_idx; rw [e, hy.left_idx] at this; omega
    have n₂ : Proc.devRef (τ := τ₂) .tc b ∉ op₂.writes := by
      rw [w₂, Finset.mem_singleton]
      exact devRef_ne_of_ne fun e => by have := hab.right_idx; rw [e, hy.right_idx] at this; omega
    rw [op₁.result_of_not_mem V n₁, op₂.result_of_not_mem W n₂]
    exact hA k a b hab hlt
  · obtain rfl := ref_eq hab.left_hbm hy.left_hbm (hab.left_idx.trans hy.left_idx.symm)
    obtain rfl := ref_eq hab.right_hbm hy.right_hbm (hab.right_idx.trans hy.right_idx.symm)
    exact hr V W hA

/-- Two lines, operation by operation, the first of them writing buffer `n`, each next one the next buffer. -/
def Twins : Nat → List (HloOp τ₁ sig₁ Val) → List (HloOp τ₂ sig₂ Val) → Prop
  | _, [], [] => True
  | n, op₁ :: l₁, op₂ :: l₂ => Twin n op₁ op₂ ∧ Twins (n + 1) l₁ l₂
  | _, _, _ => False

/-- Twin lines keep the agreement, and extend it by what they write. -/
theorem Twins.agree : ∀ {n : Nat} {l₁ : List (HloOp τ₁ sig₁ Val)} {l₂ : List (HloOp τ₂ sig₂ Val)}, Twins n l₁ l₂ →
    ∀ {V : Valuation τ₁ sig₁ Val} {W : Valuation τ₂ sig₂ Val}, Agree n V W → Agree (n + l₁.length) (after l₁ V) (after l₂ W)
  | _, [], [], _, _, _, hA => hA
  | n, op₁ :: l₁, op₂ :: l₂, h, V, W, hA => by
    have := Twins.agree h.2 (h.1.step hA)
    rwa [List.length_cons, Nat.add_comm l₁.length 1, ← Nat.add_assoc]
  | _, [], _ :: _, h, _, _, _ => h.elim
  | _, _ :: _, [], h, _, _, _ => h.elim

/-- Twin lines one after the other. -/
theorem Twins.append : ∀ {n : Nat} {l₁ : List (HloOp τ₁ sig₁ Val)} {l₂ : List (HloOp τ₂ sig₂ Val)}, Twins n l₁ l₂ →
    ∀ {m : Nat} {r₁ : List (HloOp τ₁ sig₁ Val)} {r₂ : List (HloOp τ₂ sig₂ Val)}, m = n + l₁.length → Twins m r₁ r₂ →
    Twins n (l₁ ++ r₁) (l₂ ++ r₂)
  | _, [], [], _, _, _, _, e, h => by subst e; exact h
  | n, _ :: l₁, _ :: _, h, m, _, _, e, hr => by
    refine ⟨h.1, Twins.append h.2 (m := m) ?_ hr⟩
    rw [e, List.length_cons]; omega
  | _, [], _ :: _, h, _, _, _, _, _ => h.elim
  | _, _ :: _, [], h, _, _, _, _, _ => h.elim

/-! ## Equal functions of equal contents, at types that are equal by a proof -/

theorem heq_app {A₁ A₂ Y₁ Y₂ : BufTy} (hA : A₁ = A₂) (hY : Y₁ = Y₂)
    {f₁ : A₁.Contents Val → Y₁.Contents Val} {f₂ : A₂.Contents Val → Y₂.Contents Val} (hf : HEq f₁ f₂)
    {u₁ : A₁.Contents Val} {u₂ : A₂.Contents Val} (hu : HEq u₁ u₂) : HEq (f₁ u₁) (f₂ u₂) := by
  subst hA; subst hY; cases hf; cases hu; exact HEq.rfl

theorem heq_app₂ {A₁ A₂ B₁ B₂ Y₁ Y₂ : BufTy} (hA : A₁ = A₂) (hB : B₁ = B₂) (hY : Y₁ = Y₂)
    {f₁ : A₁.Contents Val → B₁.Contents Val → Y₁.Contents Val} {f₂ : A₂.Contents Val → B₂.Contents Val → Y₂.Contents Val}
    (hf : HEq f₁ f₂) {u₁ : A₁.Contents Val} {u₂ : A₂.Contents Val} (hu : HEq u₁ u₂)
    {v₁ : B₁.Contents Val} {v₂ : B₂.Contents Val} (hv : HEq v₁ v₂) : HEq (f₁ u₁ v₁) (f₂ u₂ v₂) := by
  subst hA; subst hB; subst hY; cases hf; cases hu; cases hv; exact HEq.rfl

theorem heq_app₃ {A₁ A₂ B₁ B₂ C₁ C₂ Y₁ Y₂ : BufTy} (hA : A₁ = A₂) (hB : B₁ = B₂) (hC : C₁ = C₂) (hY : Y₁ = Y₂)
    {f₁ : A₁.Contents Val → B₁.Contents Val → C₁.Contents Val → Y₁.Contents Val}
    {f₂ : A₂.Contents Val → B₂.Contents Val → C₂.Contents Val → Y₂.Contents Val}
    (hf : HEq f₁ f₂) {u₁ : A₁.Contents Val} {u₂ : A₂.Contents Val} (hu : HEq u₁ u₂)
    {v₁ : B₁.Contents Val} {v₂ : B₂.Contents Val} (hv : HEq v₁ v₂)
    {w₁ : C₁.Contents Val} {w₂ : C₂.Contents Val} (hw : HEq w₁ w₂) : HEq (f₁ u₁ v₁ w₁) (f₂ u₂ v₂ w₂) := by
  subst hA; subst hB; subst hC; subst hY; cases hf; cases hu; cases hv; cases hw; exact HEq.rfl

/-! ## The builders' twins -/

variable {n i j k : Nat}

theorem twin_nullary {y₁ : Ref sig₁ .tc} {y₂ : Ref sig₂ .tc} {v₁ : y₁.ty.Contents Val} {v₂ : y₂.ty.Contents Val} {hy₁ hy₂}
    (hy : At n y₁ y₂) (hv : HEq v₁ v₂) :
    Twin n (nullary (τ := τ₁) y₁ v₁ hy₁) (nullary (τ := τ₂) y₂ v₂ hy₂) :=
  ⟨y₁, y₂, hy, rfl, rfl, fun V W _ => by rw [nullary_result, nullary_result]; exact hv⟩

theorem twin_unary {x₁ y₁ : Ref sig₁ .tc} {x₂ y₂ : Ref sig₂ .tc} {f₁ : x₁.ty.Contents Val → y₁.ty.Contents Val}
    {f₂ : x₂.ty.Contents Val → y₂.ty.Contents Val} {hx₁ hy₁ hx₂ hy₂}
    (hx : At i x₁ x₂) (hi : i < n) (hy : At n y₁ y₂) (hf : HEq f₁ f₂) :
    Twin n (unary (τ := τ₁) x₁ y₁ f₁ hx₁ hy₁) (unary (τ := τ₂) x₂ y₂ f₂ hx₂ hy₂) :=
  ⟨y₁, y₂, hy, rfl, rfl, fun V W hA => by
    rw [unary_result, unary_result]; exact heq_app hx.ty hy.ty hf (hA i _ _ hx hi)⟩

theorem twin_binary {a₁ b₁ y₁ : Ref sig₁ .tc} {a₂ b₂ y₂ : Ref sig₂ .tc}
    {f₁ : a₁.ty.Contents Val → b₁.ty.Contents Val → y₁.ty.Contents Val}
    {f₂ : a₂.ty.Contents Val → b₂.ty.Contents Val → y₂.ty.Contents Val} {ha₁ hb₁ hy₁ ha₂ hb₂ hy₂}
    (ha : At i a₁ a₂) (hi : i < n) (hb : At j b₁ b₂) (hj : j < n) (hy : At n y₁ y₂) (hf : HEq f₁ f₂) :
    Twin n (binary (τ := τ₁) a₁ b₁ y₁ f₁ ha₁ hb₁ hy₁) (binary (τ := τ₂) a₂ b₂ y₂ f₂ ha₂ hb₂ hy₂) :=
  ⟨y₁, y₂, hy, rfl, rfl, fun V W hA => by
    rw [binary_result, binary_result]
    exact heq_app₂ ha.ty hb.ty hy.ty hf (hA i _ _ ha hi) (hA j _ _ hb hj)⟩

theorem twin_ternary {c₁ a₁ b₁ y₁ : Ref sig₁ .tc} {c₂ a₂ b₂ y₂ : Ref sig₂ .tc}
    {f₁ : c₁.ty.Contents Val → a₁.ty.Contents Val → b₁.ty.Contents Val → y₁.ty.Contents Val}
    {f₂ : c₂.ty.Contents Val → a₂.ty.Contents Val → b₂.ty.Contents Val → y₂.ty.Contents Val}
    {hc₁ ha₁ hb₁ hy₁ hc₂ ha₂ hb₂ hy₂}
    (hc : At k c₁ c₂) (hk : k < n) (ha : At i a₁ a₂) (hi : i < n) (hb : At j b₁ b₂) (hj : j < n) (hy : At n y₁ y₂)
    (hf : HEq f₁ f₂) :
    Twin n (ternary (τ := τ₁) c₁ a₁ b₁ y₁ f₁ hc₁ ha₁ hb₁ hy₁) (ternary (τ := τ₂) c₂ a₂ b₂ y₂ f₂ hc₂ ha₂ hb₂ hy₂) :=
  ⟨y₁, y₂, hy, rfl, rfl, fun V W hA => by
    rw [ternary_result, ternary_result]
    exact heq_app₃ hc.ty ha.ty hb.ty hy.ty hf (hA k _ _ hc hk) (hA i _ _ ha hi) (hA j _ _ hb hj)⟩

theorem twin_reshape {x₁ y₁ : Ref sig₁ .tc} {x₂ y₂ : Ref sig₂ .tc} {he₁ hn₁ he₂ hn₂} {hx₁ hy₁ hx₂ hy₂}
    (hx : At i x₁ x₂) (hi : i < n) (hy : At n y₁ y₂) :
    Twin n (reshape (τ := τ₁) (Val := Val) x₁ y₁ he₁ hn₁ hx₁ hy₁) (reshape (τ := τ₂) (Val := Val) x₂ y₂ he₂ hn₂ hx₂ hy₂) :=
  ⟨y₁, y₂, hy, rfl, rfl, fun V W hA => by
    rw [reshape_result, reshape_result]
    refine heq_app (f₁ := fun u i => he₁ ▸ shapeCast y₁.ty.shape u hn₁ i) (f₂ := fun u i => he₂ ▸ shapeCast y₂.ty.shape u hn₂ i)
      hx.ty hy.ty ?_ (hA i _ _ hx hi)
    have key : ∀ {X₁ Y₁ X₂ Y₂ : BufTy} (hX : X₁ = X₂) (hY : Y₁ = Y₂) (e₁ : X₁.elt = Y₁.elt) (e₂ : X₂.elt = Y₂.elt)
        (n₁ : X₁.shape.ShapeCasts Y₁.shape) (n₂ : X₂.shape.ShapeCasts Y₂.shape),
        HEq (fun (u : X₁.Contents Val) (i : Y₁.shape.Idx) => (e₁ ▸ shapeCast Y₁.shape u n₁ i : Val Y₁.elt))
          (fun (u : X₂.Contents Val) (i : Y₂.shape.Idx) => (e₂ ▸ shapeCast Y₂.shape u n₂ i : Val Y₂.elt)) := by
      intro X₁ Y₁ X₂ Y₂ hX hY; subst hX; subst hY; intros; exact HEq.rfl
    exact key hx.ty hy.ty _ _ _ _⟩

/-- Three values as a family. -/
def tri {sig : RefSig} {a b c : Ref sig .tc} (x : a.ty.Contents Val) (y : b.ty.Contents Val) (z : c.ty.Contents Val) :
    (k : Fin 3) → (![a, b, c] k).ty.Contents Val
  | 0 => x
  | 1 => y
  | 2 => z

theorem tri_eta {sig : RefSig} {a b c : Ref sig .tc} (u : (k : Fin 3) → (![a, b, c] k).ty.Contents Val) :
    tri (a := a) (b := b) (c := c) (u 0) (u 1) (u 2) = u := by
  funext k
  match k with
  | 0 => rfl
  | 1 => rfl
  | 2 => rfl

/-- An operation of three operands given as a family (the printed `concatenate` of three pieces). -/
theorem twin_nary {a₁ b₁ c₁ y₁ : Ref sig₁ .tc} {a₂ b₂ c₂ y₂ : Ref sig₂ .tc}
    {f₁ : ((k : Fin 3) → (![a₁, b₁, c₁] k).ty.Contents Val) → y₁.ty.Contents Val}
    {f₂ : ((k : Fin 3) → (![a₂, b₂, c₂] k).ty.Contents Val) → y₂.ty.Contents Val} {hx₁ hy₁ hx₂ hy₂}
    (ha : At i a₁ a₂) (hi : i < n) (hb : At j b₁ b₂) (hj : j < n) (hc : At k c₁ c₂) (hk : k < n) (hy : At n y₁ y₂)
    (hf : HEq (fun (x : a₁.ty.Contents Val) (y : b₁.ty.Contents Val) (z : c₁.ty.Contents Val) => f₁ (tri x y z))
      (fun (x : a₂.ty.Contents Val) (y : b₂.ty.Contents Val) (z : c₂.ty.Contents Val) => f₂ (tri x y z))) :
    Twin n (nary (τ := τ₁) ![a₁, b₁, c₁] y₁ f₁ hx₁ hy₁) (nary (τ := τ₂) ![a₂, b₂, c₂] y₂ f₂ hx₂ hy₂) :=
  ⟨y₁, y₂, hy, rfl, rfl, fun V W hA => by
    rw [nary_result, nary_result]
    have h := heq_app₃ ha.ty hb.ty hc.ty hy.ty hf (hA i _ _ ha hi) (hA j _ _ hb hj) (hA k _ _ hc hk)
    have e₁ := tri_eta (a := a₁) (b := b₁) (c := c₁) fun k => V (Proc.devRef .tc (![a₁, b₁, c₁] k))
    have e₂ := tri_eta (a := a₂) (b := b₂) (c := c₂) fun k => W (Proc.devRef .tc (![a₂, b₂, c₂] k))
    rw [← e₁, ← e₂]
    exact h⟩

/-- What the left line does not write: the buffers below the first it writes. -/
theorem Twins.keep_left : ∀ {n : Nat} {l₁ : List (HloOp τ₁ sig₁ Val)} {l₂ : List (HloOp τ₂ sig₂ Val)}, Twins n l₁ l₂ →
    ∀ (V : Valuation τ₁ sig₁ Val) (a : Ref sig₁ .tc), a.idx.val < n → after l₁ V (Proc.devRef .tc a) = V (Proc.devRef .tc a)
  | _, [], [], _, _, _, _ => rfl
  | n, op₁ :: l₁, op₂ :: l₂, h, V, a, ha => by
    obtain ⟨y₁, y₂, hy, w₁, w₂, hr⟩ := h.1.out
    refine (Twins.keep_left h.2 (op₁.result V) a (Nat.lt_succ_of_lt ha)).trans (op₁.result_of_not_mem V ?_)
    rw [w₁, Finset.mem_singleton]
    exact devRef_ne_of_ne fun e => by have := hy.left_idx; rw [← e] at this; omega
  | _, [], _ :: _, h, _, _, _ => h.elim
  | _, _ :: _, [], h, _, _, _ => h.elim

end Cert.Twin

end
-- ==== Proof.Lines.lean ====
/- The host operations of the two programs, as the two lists that the proof compares. -/
module

public import proofs.«01_k».proof.Proof.Gen.KernelIdeal.Launch
public import proofs.«01_k».proof.Proof.Gen.ReferenceIdeal.Run

@[expose] public section

noncomputable section

namespace Cert.Lines

open Idealize.ShloMosaic Cert.KernelIdeal.Gen Cert.ReferenceIdeal.Value

variable {F : FTy → Type} [FloatOps F]

/-- The lines of the kernel's host operations before its pallas_call. -/
abbrev kernelLines : List (List (HloOp Cert.KernelIdeal.τ Cert.KernelIdeal.sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29]

/-- The kernel's host operations before its pallas_call. -/
abbrev kernelOps : List (HloOp Cert.KernelIdeal.τ Cert.KernelIdeal.sig (Elt F)) := (kernelLines (F := F)).flatten

/-- The reference's operations up to the window in which the scores begin. -/
abbrev refOps : List (HloOp Cert.ReferenceIdeal.τ Cert.ReferenceIdeal.sig (Elt F)) :=
  List.flatten [ops_part0_0, ops_part0_1, ops_part0_2, ops_part1_0, ops_part1_1, ops_part1_2, ops_part2_0, ops_part2_1, ops_part2_2, ops_part3_0, ops_part3_1, ops_part3_2, ops_part4_0, ops_part4_1, ops_part4_2, ops_part5_0, ops_part5_1, ops_part5_2, ops_part6_0, ops_part6_1, ops_part6_2, ops_part7_0, ops_part7_1]

end Cert.Lines

end
-- ==== Proof.Prefix.lean ====
/- The host part of the kernel and of the reference, line by line.

   The kernel runs 523 host operations before its one pallas_call; the reference runs the same 523 and goes on with the
   scores. `prefix_twins` checks this operation by operation (`Twins`, proof/Proof/Twin.lean), proof/Proof/Entry.lean
   concludes that the two arrays the pallas_call reads hold what the reference's own run has there. -/
module

public import proofs.«01_k».proof.Proof.Twin
public import proofs.«01_k».proof.Proof.Lines

@[expose] public section

set_option maxRecDepth 16384

noncomputable section

namespace Cert.Prefix

open Idealize.ShloMosaic Idealize.ShloMosaic.TcCoe Idealize.ShloMosaic.StableHlo Cert.Twin
open Cert.KernelIdeal.Gen Cert.ReferenceIdeal.Value Cert.Lines

variable {F : FTy → Type} [FloatOps F]

set_option maxHeartbeats 2000000 in
/-- The kernel's 523 operations are the reference's first 523. -/
theorem prefix_twins : Twins 26 (kernelOps (F := F)) (List.take 523 (refOps (F := F))) := by
  repeat' first
    | with_reducible exact trivial
    | refine And.intro ?_ ?_
    | exact twin_unary (by exact ⟨rfl, rfl, rfl, rfl, rfl⟩) (by decide) ⟨rfl, rfl, rfl, rfl, rfl⟩ HEq.rfl
    | exact twin_binary (by exact ⟨rfl, rfl, rfl, rfl, rfl⟩) (by decide) (by exact ⟨rfl, rfl, rfl, rfl, rfl⟩) (by decide) ⟨rfl, rfl, rfl, rfl, rfl⟩ HEq.rfl
    | exact twin_nullary ⟨rfl, rfl, rfl, rfl, rfl⟩ HEq.rfl
    | exact twin_ternary (by exact ⟨rfl, rfl, rfl, rfl, rfl⟩) (by decide) (by exact ⟨rfl, rfl, rfl, rfl, rfl⟩) (by decide) (by exact ⟨rfl, rfl, rfl, rfl, rfl⟩) (by decide) ⟨rfl, rfl, rfl, rfl, rfl⟩ HEq.rfl
    | exact twin_reshape (by exact ⟨rfl, rfl, rfl, rfl, rfl⟩) (by decide) ⟨rfl, rfl, rfl, rfl, rfl⟩
    | exact twin_nary (by exact ⟨rfl, rfl, rfl, rfl, rfl⟩) (by decide) (by exact ⟨rfl, rfl, rfl, rfl, rfl⟩) (by decide) (by exact ⟨rfl, rfl, rfl, rfl, rfl⟩) (by decide) ⟨rfl, rfl, rfl, rfl, rfl⟩ HEq.rfl
    | exact trivial

end Cert.Prefix

end
-- ==== Proof.Entry.lean ====
/- What the pallas_call finds: the arguments as they were, and the two arrays it reads as the reference's own run has them. -/
module

public import proofs.«01_k».proof.Proof.Prefix

@[expose] public section

set_option maxRecDepth 16384

noncomputable section

namespace Cert.Entry

open Idealize.ShloMosaic Idealize.ShloMosaic.TcCoe Idealize.ShloMosaic.StableHlo Cert.Twin
open Cert.ReferenceIdeal.Value Cert.Lines Cert.Prefix

variable {F : FTy → Type} [FloatOps F]

/-- The kernel's host operations leave the first 26 buffers of device memory, which are the arguments, as they were. -/
theorem kept (V : Valuation Cert.KernelIdeal.τ Cert.KernelIdeal.sig (Elt F)) (a : Ref Cert.KernelIdeal.sig .tc) (h : a.idx.val < 26) :
    after (kernelOps (F := F)) V (Proc.devRef .tc a) = V (Proc.devRef .tc a) :=
  prefix_twins.keep_left V a h

/-- The number of those operations. -/
theorem kernelOps_length : (kernelOps (F := F)).length = 523 := rfl

/-- Of the reference's operations in `refOps`, those after the first 523 write no buffer that has a smaller number than 549. -/
theorem later_keep (W : Valuation Cert.ReferenceIdeal.τ Cert.ReferenceIdeal.sig (Elt F)) (b : Ref Cert.ReferenceIdeal.sig .tc)
    (hb : b.idx.val < 549) : after (refOps (F := F)) W (Proc.devRef .tc b) = after (List.take 523 (refOps (F := F))) W (Proc.devRef .tc b) := by
  rw [← List.take_append_drop 523 (refOps (F := F)), after_append, List.take_append_drop]
  have hne : ∀ y : Ref Cert.ReferenceIdeal.sig .tc, 549 ≤ y.idx.val → Proc.devRef .tc b ∉ ({Proc.devRef .tc y} : Finset (DevRef Cert.ReferenceIdeal.τ Cert.ReferenceIdeal.sig)) :=
    fun y hy h => absurd (Finset.mem_singleton.mp h) (devRef_ne_of_ne fun e => absurd (e ▸ hb) (Nat.not_lt.mpr hy))
  refine after_of_forall_not_mem _ _ (List.forall_iff_forall_mem.mp ?_)
  show List.Forall _ [_, _, _, _, _, _, _]
  refine ⟨hne _ ?_, hne _ ?_, hne _ ?_, hne _ ?_, hne _ ?_, hne _ ?_, hne _ ?_⟩ <;> decide

/-- The reference's values at the end of its part in which the scores begin, as the contents after `refOps`. -/
theorem val7_2_eq (W : Valuation Cert.ReferenceIdeal.τ Cert.ReferenceIdeal.sig (Elt F)) : val7_2 W = after (refOps (F := F)) W := by
  simp only [refOps, List.flatten_cons, List.flatten_nil, List.append_nil, after_append]
  rfl

/-- Arguments that agree on both sides are buffers that agree. -/
theorem agree_args {V : Valuation Cert.KernelIdeal.τ Cert.KernelIdeal.sig (Elt F)} {W : Valuation Cert.ReferenceIdeal.τ Cert.ReferenceIdeal.sig (Elt F)}
    (h : ∀ k : Fin 26, ∃ (a : Ref Cert.KernelIdeal.sig .tc) (b : Ref Cert.ReferenceIdeal.sig .tc), At k.val a b ∧
      HEq (V (Proc.devRef .tc a)) (W (Proc.devRef .tc b))) : Agree 26 V W := by
  intro k a b hab hk
  obtain ⟨a', b', hab', e⟩ := h ⟨k, hk⟩
  rw [ref_eq hab.left_hbm hab'.left_hbm (hab.left_idx.trans hab'.left_idx.symm),
    ref_eq hab.right_hbm hab'.right_hbm (hab.right_idx.trans hab'.right_idx.symm)]
  exact e

/-- From arguments that agree, a buffer with a number below 549 holds, when the pallas_call starts, what the reference's run has there. -/
theorem entry {V : Valuation Cert.KernelIdeal.τ Cert.KernelIdeal.sig (Elt F)} {W : Valuation Cert.ReferenceIdeal.τ Cert.ReferenceIdeal.sig (Elt F)}
    (h : Agree 26 V W) {k : Nat} {a : Ref Cert.KernelIdeal.sig .tc} {b : Ref Cert.ReferenceIdeal.sig .tc} (hab : At k a b) (hk : k < 549) :
    HEq (after (kernelOps (F := F)) V (Proc.devRef .tc a)) (val7_2 W (Proc.devRef .tc b)) := by
  rw [val7_2_eq, later_keep W b (hab.right_idx ▸ hk)]
  exact prefix_twins.agree h k a b hab (by rw [kernelOps_length]; exact hk)

end Cert.Entry

end
-- ==== Proof.Region.lean ====
/- The kernel's one pallas_call, run to its end for any values.

   Before it @main runs 523 host operations; `V` is what the device holds then. The grid has 8 points; point `t` reads rows
   `128 t … 128 t + 127` of the session embeddings and all of the item embeddings, and writes the same rows of the scores.
   `run_main_quiescent` says where the run ends: every array of the pipeline at what the pipeline's proof data computes, every other
   buffer as it was before the call, every semaphore counter at zero. `flushed2` says what each point writes back. -/
module

public import proofs.«01_k».proof.Proof.Lines
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Region

open Cert.KernelIdeal Cert.KernelIdeal.Gen Cert.Lines
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra the body's assertions are over. -/
abbrev Alg (F : FTy → Type) [FloatOps F] := MT nD τ sig Unit (Elt F) ℕ (UR sig nD τ) ℕ

variable (m : (ℓ : Loc nD τ sig) → Buf (Elt F) ℓ) (ρ : Dev nD → PrngReg)

/-- Core `c`'s buffers when the pallas_call is entered. -/
abbrev V (c : Dev nD) (b : Ref sig .tc) : Buf (Elt F) ((c : Thread nD τ).loc b) :=
  StableHlo.after (kernelOps (F := F)) (fun b => m (c, b)) (Proc.devRef .tc b)

/-- No host operation draws fresh names. -/
theorem lines_fresh : (kernelLines (F := F)).Forall fun ops => ops.Forall fun op => op.fresh = ∅ := by
  simp only [List.Forall]; repeat' constructor

set_option maxHeartbeats 800000 in
/-- @main up to the pallas_call: the lines of host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main kernelLines
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub⟩)
    lines_fresh main_chain

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A point's buffer for the session embeddings holds its block, for any proof data with the arrays of `V` whose body leaves the block there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of the item embeddings. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S128x128 := Rect.unit (s := S128x128) ![0, 0] S128x128.size inb_S128x128_S128x128_0_0
abbrev r0_1 : Rect S20000x128 := Rect.unit (s := S20000x128) ![0, 0] S20000x128.size inb_S20000x128_S20000x128_0_0
abbrev r0_2 : Rect S128x20000 := Rect.unit (s := S128x20000) ![0, 0] S128x20000.size inb_S128x20000_S128x20000_0_0

/-! ## What the body leaves in each output window's buffer -/

/-- What the body leaves in the buffer of the scores, from the two blocks it reads: its one store. -/
def out0_2 (x0 : Vec F S128x128 .f32) (x1 : Vec F S20000x128 .f32) : Vec F S128x20000 .f32 :=
  View.canon [⟨r0_2, k0_pay1 (View.ld x0 r0_0) (View.ld x1 r0_1)⟩]

/-- That store covers the buffer. -/
theorem cover0_2 (p0 : Vec F S128x20000 .f32) (y : S128x20000.Idx) :
    ∃ pc ∈ ([⟨r0_2, p0⟩] : List (View.Piece (Elt F) S128x20000 .f32)), y ∈ pc.1.set :=
  View.cover_of_tiled [⟨r0_2, p0⟩] S128x20000.size (by rfl) y

/-! ## The body's triple -/

set_option maxHeartbeats 1000000 in
/-- The body, given its two inputs' buffers at `x0` and `x1` and the scores' buffer at anything, leaves the inputs as they were and `out0_2 x0 x1` in the scores' buffer. -/
theorem sound_kernel (c : Dev nD) (E : Set ℕ) (i : grid0.Coords) (arg1 : Memref sig .tc .vmem S128x128 .f32) (harg1 : arg1.IsWhole) (arg2 : Memref sig .tc .vmem S20000x128 .f32) (harg2 : arg2.IsWhole) (arg3 : Memref sig .tc .vmem S128x20000 .f32) (harg3 : arg3.IsWhole)
    (x0 : Vec F S128x128 .f32) (x1 : Vec F S20000x128 .f32) (K : PUnit → sProp (Alg F)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scores_kernel i arg1 harg1 arg2 harg2 arg3 harg3) K := by
  simp only [cc0__scores_kernel_eq_skeleton]; unfold cc0__scores_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- What the pipeline's run is stated with: the arrays as the call finds them, what each point's body leaves in each window's buffer, and nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The arrays are those the call finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- The inputs' buffers hold their blocks at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp (Alg F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp (Alg F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point, from `sound_kernel`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body under its label is the body at point `t`. -/
theorem defs₀_row (t : Fin cfg0.N) :
    defs₀ (F := F) .tc cfg0.body (cfg0.bodyArgs t (cfg0.slots t)) = bodyAt0 t := by
  unfold defs₀; rw [Defs.onTc_tc]

/-- The body, at every point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run, with every semaphore counter at zero in the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## What each point writes back -/

/-- What point `t` writes back of the scores. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- The scores at the end of the run. -/
theorem post2 (r : PUnit × MemSt nD τ sig (Elt F)) (h : Pipeline.FramePost cfgs (dats m) 0 (V m) r) (c : Dev nD) :
    r.2.mem ((c : Thread nD τ).loc main_v387) = (dats m 0 c).arrAt 2 cfg0.N :=
  (h c).1 2

end Cert.Region

end
-- ==== Proof.Scores.lean ====
/- The scores at one index, in the kernel's payload and in the reference's term.

   Both are sums over the 128 features of products of two normalised rows. The kernel scales a session row by ten before it
   divides by the row's length, the reference after; over the extended reals the two agree because the length is bounded below by
   a positive number. -/
module

public import proofs.«01_k».proof.Proof.Gen.KernelIdeal.Skeleton
public import proofs.«01_k».proof.Proof.Gen.ReferenceIdeal
public import Idealize.ShloMosaic.Lib.Pointwise
public import Idealize.ShloMosaic.PureOps.Ideal

@[expose] public section

set_option maxRecDepth 16384

noncomputable section

namespace Cert.Scores

open Idealize.ShloMosaic
open Cert.KernelIdeal.Gen (k0_pay1)

/-- The smallest length a row is divided by. -/
abbrev ε : EReal := Ideal.ofBits .f32 0x2B8CBCCC#32

/-- The factor of the scores. -/
abbrev ten : EReal := Ideal.ofBits .f32 0x41200000#32

/-- A row's length, bounded below. -/
def len (x : Fin 128 → EReal) : EReal := max (Ideal.sqrt (∑ k, x k * x k)) ε

/-- One score, of a session's row and an item's row. -/
def score (s e : Fin 128 → EReal) : EReal := ∑ k, ten * Ideal.div (s k) (len s) * Ideal.div (e k) (len e)

theorem ε_pos : 0 < ε := by
  have h : ε = (((9223372 : ℝ) * (2 ^ 63)⁻¹ : ℝ) : EReal) := by simp [ε, Ideal.ofBits, Ideal.ieee]
  rw [h, EReal.coe_pos]
  positivity

/-- Scaling before or after the division. -/
theorem div_scaled (x : EReal) (s : Fin 128 → EReal) : Ideal.div (ten * x) (len s) = ten * Ideal.div x (len s) := by
  have h : len s ≠ 0 := (lt_of_lt_of_le ε_pos (le_max_right _ _)).ne'
  rw [Ideal.div, Ideal.div, if_neg h, if_neg h, mul_assoc]

/-- What the kernel's payload holds at an index. -/
theorem payload_apply (s : Vec Ideal Cert.KernelIdeal.S128x128 .f32) (e : Vec Ideal Cert.KernelIdeal.S20000x128 .f32) (r : Fin 128) (i : Fin 20000) :
    k0_pay1 (F := Ideal) s e (ix2 r i) = score (fun k => s (ix2 r k)) (fun k => e (ix2 i k)) := by
  simp only [score, ← div_scaled]
  pointwise [k0_pay1, len]

open Cert.ReferenceIdeal Cert.ReferenceIdeal.Gen in
/-- The reference's result, of the session embeddings and the item embeddings. -/
def refScores (s : FVec Ideal S1024x128 .f32) (e : FVec Ideal S20000x128 .f32) : FVec Ideal S1024x20000 .f32 :=
  Host.dotGeneral dot_S1024x128_S128x20000_S1024x20000_1_0_0_1_n_n none (mulf (broadcastInDim S1024x128 ![] bcast_S_S1024x128 (constant S_ .f32 0x41200000#32)) (Host.divf s (broadcastInDim S1024x128 ![0, 1] bcast_S1024x1_S1024x128_0_1 (maximumf (Host.sqrt (broadcastInDim S1024x1 ![0] bcast_S1024_S1024x1_0 (Host.reduceAdd (mulf s s) (constant S_ .f32 0x00000000#32) reducesTo_S1024x128_S1024_d1 h_S_))) (broadcastInDim S1024x1 ![] bcast_S_S1024x1 (constant S_ .f32 0x2B8CBCCC#32)))))) (transpose S128x20000 [1, 0] (Host.divf e (broadcastInDim S20000x128 ![0, 1] bcast_S20000x1_S20000x128_0_1 (maximumf (Host.sqrt (broadcastInDim S20000x1 ![0] bcast_S20000_S20000x1_0 (Host.reduceAdd (mulf e e) (constant S_ .f32 0x00000000#32) reducesTo_S20000x128_S20000_d1 h_S_))) (broadcastInDim S20000x1 ![] bcast_S_S20000x1 (constant S_ .f32 0x2B8CBCCC#32))))) transposes_S20000x128_S128x20000_1_0)

/-- The reference's result at an index. -/
theorem refScores_apply (s : FVec Ideal Cert.ReferenceIdeal.S1024x128 .f32) (e : FVec Ideal Cert.ReferenceIdeal.S20000x128 .f32)
    (r : Fin 1024) (i : Fin 20000) :
    refScores s e (ix2 r i) = score (fun k => s (ix2 r k)) (fun k => e (ix2 i k)) := by
  pointwise [refScores, score, len]

end Cert.Scores

end
-- ==== Proof.Blocks.lean ====
/- The whole array of scores after the kernel's pallas_call.

   Point `t` of the grid writes rows `128 t … 128 t + 127`; each row it writes is the row of `scores`, and the eight points' rows are all the rows. -/
module

public import proofs.«01_k».proof.Proof.Region
public import proofs.«01_k».proof.Proof.Scores

@[expose] public section

set_option maxRecDepth 16384

noncomputable section

namespace Cert.Blocks

open Cert.KernelIdeal Cert.KernelIdeal.Gen Cert.Region Cert.Scores Idealize.ShloMosaic Idealize.ShloMosaic.TcCoe
open Idealize.ShloMosaic.Pipeline (Dat)

variable (m : (ℓ : Loc nD τ sig) → Buf (Elt Ideal) ℓ)

/-- The scores of the session and item embeddings the pallas_call finds. -/
def scores (c : Dev nD) : FVec Ideal S1024x20000 .f32 :=
  fun i => score (fun k => V m c main_v386 (ix2 (i 0) k)) (fun k => V m c main_v46 (ix2 (i 1) k))

theorem hz : (![0, 0] : Fin 2 → Nat) = fun _ => 0 := funext fun a => by fin_cases a <;> rfl

/-- The kernel's three index maps: the rows of the session embeddings and of the scores move with the grid, the item embeddings stay. -/
theorem maps : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The row of the scores that row `y` of point `t`'s block is. -/
theorem row_val (t : Fin cfg0.N) (y : (win0_2.xblock (grid0.coords t)).Idx) :
    ((win0_2.rect t).emb y 0 : Nat) = t.val * 128 + (y 0 : Nat) ∧ ((win0_2.rect t).emb y 1 : Nat) = (y 1 : Nat) := by
  refine ⟨(win0_2.rect_emb_val t y 0).trans ?_, win0_2.rect_emb_val_of_index_zero t 1 ?_ y⟩
  · rw [(maps t).2.2]; rfl
  · rw [(maps t).2.2]; rfl

/-- Row `y` of point `t`'s block of the session embeddings. -/
theorem session_block (c : Dev nD) (t : Fin cfg0.N) (y : S128x20000.Idx) (k : Fin 128) :
    iblk m c 0 t (ix2 (y 0) k) = V m c main_v386 (ix2 ((win0_2.rect t).emb y 0) k) := by
  refine congrArg (V m c main_v386) (a₁ := (win0_0.rect t).emb (ix2 (y 0) k)) ?_
  funext a
  apply Fin.ext
  revert a
  refine Fin.forall_fin_two.mpr ⟨?_, ?_⟩
  · refine ((win0_0.rect_emb_val t _ 0).trans ?_).trans (row_val t y).1.symm
    rw [(maps t).1]; rfl
  · refine win0_0.rect_emb_val_of_index_zero t 1 ?_ _
    rw [(maps t).1]; rfl

/-- The item embeddings are one block. -/
theorem item_block (c : Dev nD) (t : Fin cfg0.N) (y : S128x20000.Idx) (k : Fin 128) :
    iblk m c 1 t (ix2 (y 1) k) = V m c main_v46 (ix2 ((win0_2.rect t).emb y 1) k) := by
  refine congrArg (V m c main_v46) (a₁ := (win0_1.rect t).emb (ix2 (y 1) k)) ?_
  funext a
  apply Fin.ext
  revert a
  refine Fin.forall_fin_two.mpr ⟨?_, ?_⟩
  · refine (win0_1.rect_emb_val_of_index_zero t 0 ?_ _).trans (row_val t y).2.symm
    rw [(maps t).2.1]; rfl
  · refine win0_1.rect_emb_val_of_index_zero t 1 ?_ _
    rw [(maps t).2.1]; rfl

/-- What point `t` writes back is block `t` of the scores. -/
theorem flushed_eq (c : Dev nD) (t : Fin cfg0.N) :
    (dats m 0 c).flushed 2 t = ((cfg0.win 2).blk t).view.read (Elt Ideal) (scores m c) := by
  rw [flushed2]
  unfold out0_2
  rw [View.canon_unit_zero hz, View.ld_unit_zero hz, View.ld_unit_zero hz]
  funext y
  show k0_pay1 (iblk m c 0 t) (iblk m c 1 t) y = scores m c ((win0_2.rect t).emb y)
  refine (congrArg _ (eq_ix2 (n0 := 128) (n1 := 20000) y)).trans ((payload_apply _ _ _ _).trans ?_)
  unfold scores
  simp only [session_block, item_block]

/-- Point `t` writes the rows from `128 t` on. -/
theorem mem_blk (t : Fin cfg0.N) (i : S1024x20000.Idx) :
    i ∈ ((cfg0.win 2).blk t).view.set ↔ t.val * 128 ≤ (i 0 : Nat) ∧ (i 0 : Nat) < t.val * 128 + 128 := by
  show i ∈ ((View.whole main_v387).slice (win0_2.rect t)).set ↔ _
  rw [View.set_slice_whole, Rect.mem_set_unit]
  have h1 : (i 1 : Nat) < 20000 := (i 1).isLt
  have e0 : win0_2.index t 0 * win0_2.size 0 = t.val * 128 := by rw [(maps t).2.2]; rfl
  have e1 : win0_2.index t 1 * win0_2.size 1 = 0 := by rw [(maps t).2.2]; exact Nat.zero_mul _
  refine ⟨fun h => ?_, fun h => Fin.forall_fin_two.mpr ⟨?_, ?_⟩⟩
  · have : win0_2.index t 0 * win0_2.size 0 ≤ (i 0 : Nat) ∧ (i 0 : Nat) < win0_2.index t 0 * win0_2.size 0 + 128 := h 0
    rwa [e0] at this
  · show win0_2.index t 0 * win0_2.size 0 ≤ (i 0 : Nat) ∧ (i 0 : Nat) < win0_2.index t 0 * win0_2.size 0 + 128
    rwa [e0]
  · show win0_2.index t 1 * win0_2.size 1 ≤ (i 1 : Nat) ∧ (i 1 : Nat) < win0_2.index t 1 * win0_2.size 1 + 20000
    rw [e1]; omega

/-- Every row is one of some point's. -/
theorem cover (i : S1024x20000.Idx) :
    ∃ t : Fin cfg0.N, (cfg0.win 2).flush t = true ∧ i ∈ ((cfg0.win 2).blk t).view.set := by
  have h0 : (i 0 : Nat) < 1024 := (i 0).isLt
  have hN : cfg0.N = 8 := N_0
  refine ⟨⟨(i 0 : Nat) / 128, by omega⟩, flush0_2 _, (mem_blk _ _).mpr ?_⟩
  dsimp only
  omega

/-- The array of scores at the end of the grid. -/
theorem final (c : Dev nD) : (dats m 0 c).arrAt 2 cfg0.N = scores m c :=
  (dats m 0 c).arrAt_eq_of_cover 2 (scores m c) (fun t _ => flushed_eq m c t) cover

end Cert.Blocks

end
-- ==== Proof.Kernel.lean ====
/- The kernel's run, for any values: where its result is read, that its arguments are kept, that its semaphores are left at zero. -/
module

public import proofs.«01_k».proof.Proof.Entry
public import proofs.«01_k».proof.Proof.Blocks

@[expose] public section

set_option maxRecDepth 16384

noncomputable section

namespace Cert.KernelRun

open Cert.KernelIdeal Cert.KernelIdeal.Gen Cert.Region Idealize.ShloMosaic Idealize.ShloMosaic.TcCoe Idealize.SL.Sem

variable {F : FTy → Type} [FloatOps F]
variable (m : (ℓ : Loc nD τ sig) → Buf (Elt F) ℓ) (ρ : Dev nD → PrngReg)

/-- A final state of the kernel: the result read off the grid, every argument as it was, every semaphore counter at zero. -/
structure Final (r : PUnit × MemSt nD τ sig (Elt F)) : Prop where
  result : ∀ c : Dev nD, r.2.mem ((c : Thread nD τ).loc main_v387) = (dats m 0 c).arrAt 2 cfg0.N
  kept : ∀ (c : Dev nD) (b : Ref sig .tc), b.idx.val < 26 → b ∈ Pipeline.restRefs sig spec0 →
    r.2.mem ((c : Thread nD τ).loc b) = m ((c : Thread nD τ).loc b)
  quiet : r.2.sem = fun _ => 0

/-- Every run of the kernel ends, and ends in such a state. -/
theorem run : θ_run defs (onTc (τ := τ) (main (F := F))) ⟨m, fun _ => 0, ρ⟩ (Final m) :=
  (θ_run defs _ _).mono (fun r h => ⟨post2 m r h.1, fun c b hb hr => ((h.1 c).2 b hr).trans (Entry.kept _ b hb), h.2⟩)
    (run_main_quiescent m ρ)

/-- The arguments of a final state, one by one. -/
theorem Final.args {r : PUnit × MemSt nD τ sig (Elt F)} (h : Final m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) := by
  and_intros <;> exact h.kept c _ (by decide) (Pipeline.mem_restRefs_of _ (by decide) (by decide))

end Cert.KernelRun

end
-- ==== Proof.Values.lean ====
/- The two programs' results, from equal arguments.

   The kernel's array of scores is the reference's term: both are `score` of a row of the session embeddings and a row of the item
   embeddings, and the two programs have the same embeddings. -/
module

public import proofs.«01_k».proof.Proof.Kernel

@[expose] public section

set_option maxRecDepth 16384

noncomputable section

namespace Cert.Values

open Cert.ReferenceIdeal.Value Cert.Scores Cert.Twin Idealize.ShloMosaic Idealize.ShloMosaic.TcCoe Idealize.ShloMosaic.StableHlo Idealize.SL.Sem

/-- The scores that the kernel ends with are the reference's result, when the two have the same arguments. -/
theorem scores_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Agree 26 (launchContents m c) (launchContents m' c)) :
    Blocks.scores m c = refScores (res_main_v386 (launchContents m' c)) (res_main_v46 (launchContents m' c)) := by
  have hs : Region.V m c Cert.KernelIdeal.main_v386 = res_main_v386 (launchContents m' c) :=
    (eq_of_heq (Entry.entry h (k := 548) (a := Cert.KernelIdeal.main_v386) (b := Cert.ReferenceIdeal.main_v386) ⟨rfl, rfl, rfl, rfl, rfl⟩ (by decide))).trans
      (val7_2_main_v386 _)
  have he : Region.V m c Cert.KernelIdeal.main_v46 = res_main_v46 (launchContents m' c) :=
    (eq_of_heq (Entry.entry h (a := Cert.KernelIdeal.main_v46) (b := Cert.ReferenceIdeal.main_v46) ⟨rfl, rfl, rfl, rfl, rfl⟩ (by decide))).trans
      (val7_2_main_v46 _)
  funext i
  unfold Blocks.scores
  rw [hs, he]
  exact (refScores_apply _ _ _ _).symm.trans (congrArg _ (eq_ix2 (n0 := 1024) (n1 := 20000) i).symm)

/-- An argument that the two sides have alike. -/
theorem arg {V : Valuation Cert.KernelIdeal.τ Cert.KernelIdeal.sig (Elt Ideal)} {W : Valuation Cert.ReferenceIdeal.τ Cert.ReferenceIdeal.sig (Elt Ideal)}
    {k : Nat} {a : Ref Cert.KernelIdeal.sig .tc} {b : Ref Cert.ReferenceIdeal.sig .tc} (e : HEq (W (Proc.devRef .tc b)) (V (Proc.devRef .tc a)))
    (hab : At k a b) : ∃ (a : Ref Cert.KernelIdeal.sig .tc) (b : Ref Cert.ReferenceIdeal.sig .tc), At k a b ∧
      HEq (V (Proc.devRef .tc a)) (W (Proc.devRef .tc b)) :=
  ⟨a, b, hab, e.symm⟩

/-- The arguments that the claim takes to be equal, as buffers that agree. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Agree 26 (launchContents m c) (launchContents m' c) := by
  obtain ⟨h0, h1, h2, h3, h4, h5, h6, h7, h8, h9, h10, h11, h12, h13, h14, h15, h16, h17, h18, h19, h20, h21, h22, h23, h24, h25⟩ := h
  refine Entry.agree_args fun k => ?_
  fin_cases k
  exacts [arg (heq_of_eq h0) ⟨rfl, rfl, rfl, rfl, rfl⟩, arg (heq_of_eq h1) ⟨rfl, rfl, rfl, rfl, rfl⟩, arg (heq_of_eq h2) ⟨rfl, rfl, rfl, rfl, rfl⟩, arg (heq_of_eq h3) ⟨rfl, rfl, rfl, rfl, rfl⟩, arg (heq_of_eq h4) ⟨rfl, rfl, rfl, rfl, rfl⟩, arg (heq_of_eq h5) ⟨rfl, rfl, rfl, rfl, rfl⟩, arg (heq_of_eq h6) ⟨rfl, rfl, rfl, rfl, rfl⟩, arg (heq_of_eq h7) ⟨rfl, rfl, rfl, rfl, rfl⟩, arg (heq_of_eq h8) ⟨rfl, rfl, rfl, rfl, rfl⟩, arg (heq_of_eq h9) ⟨rfl, rfl, rfl, rfl, rfl⟩, arg (heq_of_eq h10) ⟨rfl, rfl, rfl, rfl, rfl⟩, arg (heq_of_eq h11) ⟨rfl, rfl, rfl, rfl, rfl⟩, arg (heq_of_eq h12) ⟨rfl, rfl, rfl, rfl, rfl⟩, arg (heq_of_eq h13) ⟨rfl, rfl, rfl, rfl, rfl⟩, arg (heq_of_eq h14) ⟨rfl, rfl, rfl, rfl, rfl⟩, arg (heq_of_eq h15) ⟨rfl, rfl, rfl, rfl, rfl⟩, arg (heq_of_eq h16) ⟨rfl, rfl, rfl, rfl, rfl⟩, arg (heq_of_eq h17) ⟨rfl, rfl, rfl, rfl, rfl⟩, arg (heq_of_eq h18) ⟨rfl, rfl, rfl, rfl, rfl⟩, arg (heq_of_eq h19) ⟨rfl, rfl, rfl, rfl, rfl⟩, arg (heq_of_eq h20) ⟨rfl, rfl, rfl, rfl, rfl⟩, arg (heq_of_eq h21) ⟨rfl, rfl, rfl, rfl, rfl⟩, arg (heq_of_eq h22) ⟨rfl, rfl, rfl, rfl, rfl⟩, arg (heq_of_eq h23) ⟨rfl, rfl, rfl, rfl, rfl⟩, arg (heq_of_eq h24) ⟨rfl, rfl, rfl, rfl, rfl⟩, arg (heq_of_eq h25) ⟨rfl, rfl, rfl, rfl, rfl⟩]

end Cert.Values

end
-- ==== Proof.lean ====
module

public import proofs.«01_k».proof.Defs
public import proofs.«01_k».proof.Proof.Gen.Kernel
public import proofs.«01_k».proof.Proof.Same
public import proofs.«01_k».proof.Proof.Values
public import Idealize.ShloMosaic.Lib.Quiescent

@[expose] public section

noncomputable section

namespace Cert.Proof

open Idealize.ShloMosaic Idealize.ShloMosaic.TcCoe Idealize.SL.Sem Cert.Twin

/-- The kernel over the extended reals. -/
theorem quiescent_kernel_ideal : Cert.quiescent_KernelIdeal (hKernelIdeal := Cert.KernelIdeal.Gen.facts) := fun m g _ =>
  (θ_run _ _ _).mono (fun _ h => ⟨h.args m, h.quiet⟩) (KernelRun.run m g)

/-- The kernel at the machine's own floats is the same program, and has the same run. -/
theorem quiescent_kernel : Cert.quiescent_Kernel (hKernel := Cert.Kernel.Gen.facts) := fun m g _ => by
  letI := Cert.Kernel.Gen.facts
  rw [Same.main_eq, Same.defs_eq]
  exact (θ_run _ _ _).mono (fun _ h => ⟨KernelRun.Final.args (F := Bits) m h, h.quiet⟩) (KernelRun.run (F := Bits) m g)

/-- The reference. -/
theorem quiescent_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The values. -/
theorem algebraic : Cert.algebraic_KernelIdeal_ReferenceIdeal (hKernelIdeal := Cert.KernelIdeal.Gen.facts)
    (hReferenceIdeal := Cert.ReferenceIdeal.Gen.facts) := fun m g m' g' _ hargs =>
  ⟨Blocks.scores m, (θ_run _ _ _).mono (fun _ h c => ⟨(h.result c).trans (Blocks.final m c), h.args m c⟩) (KernelRun.run m g),
    (θ_run _ _ _).mono (fun _ h c => ⟨(h c).1.trans (Values.scores_eq m m' c (Values.agree m m' c (hargs c))).symm, (h c).2⟩)
      (Cert.ReferenceIdeal.Value.run m' g')⟩

theorem claim : Cert.Claim := ⟨Cert.Kernel.Gen.facts, Cert.KernelIdeal.Gen.facts, Cert.ReferenceIdeal.Gen.facts,
  quiescent_kernel, quiescent_kernel_ideal, quiescent_reference, trivial, algebraic⟩

end Cert.Proof

end
